-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_graph_scores [hPre_every_graph_scores : Cert.Pre_every_graph_scores.Facts] (m : (ℓ : Loc Cert.KernelIdeal.nD Cert.KernelIdeal.τ Cert.KernelIdeal.sig) → Buf (Elt Ideal) ℓ) : Prop :=
  ∀ c : Dev Cert.KernelIdeal.nD,
    (Cert.Pre_every_graph_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_every_graph_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_graph_scores [hPre_every_graph_scores : Cert.Pre_every_graph_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_graph_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_every_graph_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_every_graph_scores [hKernelIdeal : Cert.KernelIdeal.Facts] [hPre_every_graph_scores : Cert.Pre_every_graph_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_graph_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_every_graph_scores [hReferenceIdeal : Cert.ReferenceIdeal.Facts] [hPre_every_graph_scores : Cert.Pre_every_graph_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_graph_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_every_graph_scores [hKernelIdeal : Cert.KernelIdeal.Facts] [hReferenceIdeal : Cert.ReferenceIdeal.Facts] [hPre_every_graph_scores : Cert.Pre_every_graph_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_graph_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_every_graph_scores : Cert.Pre_every_graph_scores.Facts),
    quiescent_Kernel (hKernel := hKernel)
    ∧ quiescent_KernelIdeal (hKernelIdeal := hKernelIdeal)
    ∧ quiescent_KernelIdeal_pre_every_graph_scores (hKernelIdeal := hKernelIdeal) (hPre_every_graph_scores := hPre_every_graph_scores)
    ∧ quiescent_ReferenceIdeal (hReferenceIdeal := hReferenceIdeal)
    ∧ quiescent_ReferenceIdeal_pre_every_graph_scores (hReferenceIdeal := hReferenceIdeal) (hPre_every_graph_scores := hPre_every_graph_scores)
    ∧ preserves_Kernel_KernelIdeal
    ∧ algebraic_KernelIdeal_ReferenceIdeal_pre_every_graph_scores (hKernelIdeal := hKernelIdeal) (hReferenceIdeal := hReferenceIdeal) (hPre_every_graph_scores := hPre_every_graph_scores)
-- ==== Pre_every_graph_scores.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S50000x256 : Shape := ⟨2, ![50000, 256]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S128 : Shape := ⟨1, ![128]⟩
abbrev S1x128 : Shape := ⟨2, ![1, 128]⟩
abbrev S50000x128 : Shape := ⟨2, ![50000, 128]⟩

class Facts : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S50000 : S_.BroadcastsInDim S50000 (![] : Fin 0 → Fin S50000.rank)
  dot_S50000x512_S512x256_S50000x256_1_0_0_1_n_n_wf : DotDims.WF S50000x512 S512x256 S50000x256 [1] [0] [0] [1] [] []
  dot_S50000x256_S256x1_S50000x1_1_0_0_1_n_n_wf : DotDims.WF S50000x256 S256x1 S50000x1 [1] [0] [0] [1] [] []
  gather_S128_S50000x1_S50000_n_0_n_n_0_1_1_wf : GatherDims.WF S128 S50000x1 S50000 [] [0] [] [0] [] 1 ![1]

variable [Facts]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S128_S50000x1_S50000_n_0_n_n_0_1_1 : GatherDims S128 S50000x1 S50000 where
  offsetDims := []
  collapsedSliceDims := [0]
  operandBatchingDims := []
  startIndicesBatchingDims := []
  startIndexMap := [0]
  indexVectorDim := 1
  sliceSizes := ![1]
  wf := gather_S128_S50000x1_S50000_n_0_n_n_0_1_1_wf
def fn_where {F : FTy → Type} [FloatOps F] (arg0 : IVec S50000x128 1) (arg1 : FVec F S50000x1 .f32) (arg2 : FVec F S_ .f32) : FVec F S50000x128 .f32 :=
  let v0 : FVec F S_ .f32 := id arg2
  let v1 : FVec F S50000x128 .f32 := broadcastInDim S50000x128 ![0, 1] bcast_S50000x1_S50000x128_0_1 arg1
  let v2 : FVec F S50000x128 .f32 := broadcastInDim S50000x128 ![] bcast_S_S50000x128 v0
  let v3 : FVec F S50000x128 .f32 := select arg0 v1 v2
  v3

def fn_part1 {F : FTy → Type} [FloatOps F] (main_arg1 : IVec S50000 32) (main_v19 : FVec F S128 .f32) (main_c : IVec S_ 32) : IVec S50000 1 × IVec S50000 1 :=
  let main_v20 : IVec S50000 32 := broadcastInDim S50000 ![] bcast_S_S50000 main_c
  let main_v21 : IVec S50000 1 := cmpi .sge main_arg1 main_v20
  let main_c_2 : IVec S_ 32 := constantI S_ 32 128#32
  let main_v22 : IVec S50000 32 := broadcastInDim S50000 ![] bcast_S_S50000 main_c_2
  let main_v23 : IVec S50000 1 := cmpi .slt main_arg1 main_v22
  let main_v24 : IVec S50000 1 := andi main_v21 main_v23
  let main_c_3 : IVec S_ 32 := constantI S_ 32 0#32
  let main_v25 : IVec S50000 32 := broadcastInDim S50000 ![] bcast_S_S50000 main_c_3
  let main_v26 : IVec S50000 1 := cmpi .slt main_arg1 main_v25
  let main_c_4 : IVec S_ 32 := constantI S_ 32 128#32
  let main_v27 : IVec S50000 32 := broadcastInDim S50000 ![] bcast_S_S50000 main_c_4
  let main_v28 : IVec S50000 32 := addi main_arg1 main_v27
  let main_v29 : IVec S50000 32 := select main_v26 main_v28 main_arg1
  let main_v30 : IVec S50000x1 32 := broadcastInDim S50000x1 ![0] bcast_S50000_S50000x1_0 main_v29
  let main_v31 : FVec F S50000 .f32 := (fun x i => Host.gather gather_S128_S50000x1_S50000_n_0_n_n_0_1_1 x i) main_v19 main_v30
  let main_cst_5 : FVec F S_ .f32 := constant S_ .f32 0xFF800000#32
  let main_v32 : FVec F S50000 .f32 := broadcastInDim S50000 ![] bcast_S_S50000 main_cst_5
  let main_v33 : IVec S50000 1 := cmpf .ogt main_v31 main_v32
  (main_v24, main_v33)

def fn {F : FTy → Type} [FloatOps F] (main_arg0 : FVec F S50000x512 .f32) (main_arg1 : IVec S50000 32) (main_arg2 : FVec F S512x256 .f32) (main_arg3 : FVec F S256 .f32) (main_arg4 : FVec F S256x1 .f32) (main_arg5 : FVec F S1 .f32) (main_arg6 : FVec F S512x512 .f32) (main_arg7 : FVec F S512 .f32) : IVec S50000 1 × IVec S50000 1 :=
  let main_v0 : FVec F S50000x256 .f32 := (fun l r => Host.dotGeneral dot_S50000x512_S512x256_S50000x256_1_0_0_1_n_n none l r) main_arg0 main_arg2
  let main_v1 : FVec F S1x256 .f32 := broadcastInDim S1x256 ![1] bcast_S256_S1x256_1 main_arg3
  let main_v2 : FVec F S50000x256 .f32 := broadcastInDim S50000x256 ![0, 1] bcast_S1x256_S50000x256_0_1 main_v1
  let main_v3 : FVec F S50000x256 .f32 := addf main_v0 main_v2
  let main_cst : FVec F S_ .f32 := constant S_ .f32 0x00000000#32
  let main_v4 : FVec F S50000x256 .f32 := broadcastInDim S50000x256 ![] bcast_S_S50000x256 main_cst
  let main_v5 : FVec F S50000x256 .f32 := maximumf main_v3 main_v4
  let main_v6 : FVec F S50000x1 .f32 := (fun l r => Host.dotGeneral dot_S50000x256_S256x1_S50000x1_1_0_0_1_n_n none l r) main_v5 main_arg4
  let main_v7 : FVec F S1x1 .f32 := broadcastInDim S1x1 ![1] bcast_S1_S1x1_1 main_arg5
  let main_v8 : FVec F S50000x1 .f32 := broadcastInDim S50000x1 ![0, 1] bcast_S1x1_S50000x1_0_1 main_v7
  let main_v9 : FVec F S50000x1 .f32 := addf main_v6 main_v8
  let main_v10 : FVec F S50000 .f32 := shapeCast S50000 main_v9 shapeCasts_S50000x1_S50000
  let main_v11 : IVec S50000x1 32 := broadcastInDim S50000x1 ![0] bcast_S50000_S50000x1_0 main_arg1
  let main_v12 : IVec S128 32 := iotaInDim S128 32 0
  let main_v13 : IVec S1x128 32 := broadcastInDim S1x128 ![1] bcast_S128_S1x128_1 main_v12
  let main_v14 : IVec S50000x128 32 := broadcastInDim S50000x128 ![0, 1] bcast_S50000x1_S50000x128_0_1 main_v11
  let main_v15 : IVec S50000x128 32 := broadcastInDim S50000x128 ![0, 1] bcast_S1x128_S50000x128_0_1 main_v13
  let main_v16 : IVec S50000x128 1 := cmpi .eq main_v14 main_v15
  let main_v17 : FVec F S50000x1 .f32 := broadcastInDim S50000x1 ![0] bcast_S50000_S50000x1_0 main_v10
  let main_cst_0 : FVec F S_ .f32 := constant S_ .f32 0xFF800000#32
  let main_v18 : FVec F S50000x128 .f32 := fn_where (F := F) main_v16 main_v17 main_cst_0
  let main_cst_1 : FVec F S_ .f32 := constant S_ .f32 0xFF800000#32
  let main_v19 : FVec F S128 .f32 := (fun x v => Host.reduce FloatOps.maximumf x v reducesTo_S50000x128_S128_d0 h_S_) main_v18 main_cst_1
  let main_c : IVec S_ 32 := constantI S_ 32 0#32
  fn_part1 (F := F) main_arg1 main_v19 main_c
-- ==== Kernel.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S50000x1 : Shape := ⟨2, ![50000, 1]⟩
abbrev S1x256 : Shape := ⟨2, ![1, 256]⟩
abbrev S1x1 : Shape := ⟨2, ![1, 1]⟩
abbrev S1x512 : Shape := ⟨2, ![1, 512]⟩
abbrev S512x128 : Shape := ⟨2, ![512, 128]⟩
abbrev S1x128 : Shape := ⟨2, ![1, 128]⟩
abbrev S2000x512 : Shape := ⟨2, ![2000, 512]⟩
abbrev S2000x1 : Shape := ⟨2, ![2000, 1]⟩
abbrev S2000x256 : Shape := ⟨2, ![2000, 256]⟩
abbrev S2000 : Shape := ⟨1, ![2000]⟩
abbrev S2000x128 : Shape := ⟨2, ![2000, 128]⟩
abbrev S128 : Shape := ⟨1, ![128]⟩
abbrev S128x512 : Shape := ⟨2, ![128, 512]⟩

abbrev nBuf : Space → Nat
  | .hbm => 20
  | .vmem => 23
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S50000x1, .i32⟩
  | .hbm, ⟨9, _⟩ => ⟨S1x256, .f32⟩
  | .hbm, ⟨10, _⟩ => ⟨S1x256, .f32⟩
  | .hbm, ⟨11, _⟩ => ⟨S1x1, .f32⟩
  | .hbm, ⟨12, _⟩ => ⟨S1x512, .f32⟩
  | .hbm, ⟨13, _⟩ => ⟨S512x128, .f32⟩
  | .hbm, ⟨14, _⟩ => ⟨S1x128, .f32⟩
  | .hbm, ⟨15, _⟩ => ⟨S1x128, .f32⟩
  | .hbm, ⟨16, _⟩ => ⟨S50000x1, .f32⟩
  | .hbm, ⟨17, _⟩ => ⟨S50000x1, .f32⟩
  | .hbm, ⟨18, _⟩ => ⟨S128x512, .f32⟩
  | .hbm, ⟨19, _⟩ => ⟨S50000, .f32⟩
  | .local _ .vmem, ⟨0, _⟩ => ⟨S2000x512, .f32⟩
  | .local _ .vmem, ⟨1, _⟩ => ⟨S2000x512, .f32⟩
  | .local _ .vmem, ⟨2, _⟩ => ⟨S2000x1, .i32⟩
  | .local _ .vmem, ⟨3, _⟩ => ⟨S2000x1, .i32⟩
  | .local _ .vmem, ⟨4, _⟩ => ⟨S512x256, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S512x512, .f32⟩
  | .local _ .vmem, ⟨9, _⟩ => ⟨S1x512, .f32⟩
  | .local _ .vmem, ⟨10, _⟩ => ⟨S512x128, .f32⟩
  | .local _ .vmem, ⟨11, _⟩ => ⟨S1x128, .f32⟩
  | .local _ .vmem, ⟨12, _⟩ => ⟨S1x128, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .i32⟩
  | .local _ .vmem, ⟨18, _⟩ => ⟨S2000x1, .i32⟩
  | .local _ .vmem, ⟨19, _⟩ => ⟨S1x128, .f32⟩
  | .local _ .vmem, ⟨20, _⟩ => ⟨S1x128, .f32⟩
  | .local _ .vmem, ⟨21, _⟩ => ⟨S2000x1, .f32⟩
  | .local _ .vmem, ⟨22, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S50000x256 : Shape := ⟨2, ![50000, 256]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S128 : Shape := ⟨1, ![128]⟩
abbrev S1x128 : Shape := ⟨2, ![1, 128]⟩
abbrev S50000x128 : Shape := ⟨2, ![50000, 128]⟩
abbrev S1x512 : Shape := ⟨2, ![1, 512]⟩
abbrev S128x512 : Shape := ⟨2, ![128, 512]⟩

abbrev nBuf : Space → Nat
  | .hbm => 84
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S50000x256, .f32⟩
  | .hbm, ⟨9, _⟩ => ⟨S1x256, .f32⟩
  | .hbm, ⟨10, _⟩ => ⟨S50000x256, .f32⟩
  | .hbm, ⟨11, _⟩ => ⟨S50000x256, .f32⟩
  | .hbm, ⟨12, _⟩ => ⟨S_, .f32⟩
  | .hbm, ⟨13, _⟩ => ⟨S50000x256, .f32⟩
  | .hbm, ⟨14, _⟩ => ⟨S50000x256, .f32⟩
  | .hbm, ⟨15, _⟩ => ⟨S50000x1, .f32⟩
  | .hbm, ⟨16, _⟩ => ⟨S1x1, .f32⟩
  | .hbm, ⟨17, _⟩ => ⟨S50000x1, .f32⟩
  | .hbm, ⟨18, _⟩ => ⟨S50000x1, .f32⟩
  | .hbm, ⟨19, _⟩ => ⟨S50000, .f32⟩
  | .hbm, ⟨20, _⟩ => ⟨S50000x1, .i32⟩
  | .hbm, ⟨21, _⟩ => ⟨S128, .i32⟩
  | .hbm, ⟨22, _⟩ => ⟨S1x128, .i32⟩
  | .hbm, ⟨23, _⟩ => ⟨S50000x128, .i32⟩
  | .hbm, ⟨24, _⟩ => ⟨S50000x128, .i32⟩
  | .hbm, ⟨25, _⟩ => ⟨S50000x128, .i1⟩
  | .hbm, ⟨26, _⟩ => ⟨S50000x1, .f32⟩
  | .hbm, ⟨27, _⟩ => ⟨S_, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .i1⟩
  | .hbm, ⟨37, _⟩ => ⟨S_, .f32⟩
  | .hbm, ⟨38, _⟩ => ⟨S128, .f32⟩
  | .hbm, ⟨39, _⟩ => ⟨S128, .i1⟩
  | .hbm, ⟨40, _⟩ => ⟨S128, .i1⟩
  | .hbm, ⟨41, _⟩ => ⟨S_, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .i32⟩
  | .hbm, ⟨46, _⟩ => ⟨S50000, .i32⟩
  | .hbm, ⟨47, _⟩ => ⟨S50000, .i1⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000, .i32⟩
  | .hbm, ⟨52, _⟩ => ⟨S50000x1, .i32⟩
  | .hbm, ⟨53, _⟩ => ⟨S50000, .f32⟩
  | .hbm, ⟨54, _⟩ => ⟨S50000, .f32⟩
  | .hbm, ⟨55, _⟩ => ⟨S50000, .f32⟩
  | .hbm, ⟨56, _⟩ => ⟨S_, .f32⟩
  | .hbm, ⟨57, _⟩ => ⟨S128, .f32⟩
  | .hbm, ⟨58, _⟩ => ⟨S50000x1, .i32⟩
  | .hbm, ⟨59, _⟩ => ⟨S128, .f32⟩
  | .hbm, ⟨60, _⟩ => ⟨S_, .i32⟩
  | .hbm, ⟨61, _⟩ => ⟨S50000, .i32⟩
  | .hbm, ⟨62, _⟩ => ⟨S50000, .i1⟩
  | .hbm, ⟨63, _⟩ => ⟨S_, .i32⟩
  | .hbm, ⟨64, _⟩ => ⟨S50000, .i32⟩
  | .hbm, ⟨65, _⟩ => ⟨S50000, .i32⟩
  | .hbm, ⟨66, _⟩ => ⟨S50000, .i32⟩
  | .hbm, ⟨67, _⟩ => ⟨S50000x1, .i32⟩
  | .hbm, ⟨68, _⟩ => ⟨S50000, .f32⟩
  | .hbm, ⟨69, _⟩ => ⟨S50000, .f32⟩
  | .hbm, ⟨70, _⟩ => ⟨S50000x512, .f32⟩
  | .hbm, ⟨71, _⟩ => ⟨S1x512, .f32⟩
  | .hbm, ⟨72, _⟩ => ⟨S50000x512, .f32⟩
  | .hbm, ⟨73, _⟩ => ⟨S50000x512, .f32⟩
  | .hbm, ⟨74, _⟩ => ⟨S_, .f32⟩
  | .hbm, ⟨75, _⟩ => ⟨S50000x512, .f32⟩
  | .hbm, ⟨76, _⟩ => ⟨S50000x512, .f32⟩
  | .hbm, ⟨77, _⟩ => ⟨S50000x1, .f32⟩
  | .hbm, ⟨78, _⟩ => ⟨S50000x512, .f32⟩
  | .hbm, ⟨79, _⟩ => ⟨S50000x512, .f32⟩
  | .hbm, ⟨80, _⟩ => ⟨S_, .f32⟩
  | .hbm, ⟨81, _⟩ => ⟨S128x512, .f32⟩
  | .hbm, ⟨82, _⟩ => ⟨S50000x1, .i32⟩
  | .hbm, ⟨83, _⟩ => ⟨S128x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Proof.Lookup.lean ====
/-
  The reference's look-ups and segment sums, read at an index: looking up a table of 128 at a row's segment id, and adding every row's
  value (a number, or a vector of 512) into its segment.
-/
module

public import proofs.«01_k».proof.Proof.Gen.ReferenceIdeal
public import Idealize.ShloMosaic.Lib.Pointwise
public import Idealize.ShloMosaic.Lib.Routing.OpsPair

@[expose] public section

noncomputable section

namespace Cert.ReferenceIdeal.Lookup

open Idealize.ShloMosaic
open Cert.ReferenceIdeal Cert.ReferenceIdeal.Gen

/-- A word read as a signed number is `g < 128` exactly when it is the word `g`. -/
theorem toInt_eq_iff (b : BitVec 32) (g : Fin 128) : b.toInt = (g.val : Int) ↔ b = BitVec.ofNat 32 g.val := by
  have hg := g.isLt
  have e : (BitVec.ofNat 32 g.val).toInt = (g.val : Int) := by
    rw [BitVec.toInt_eq_toNat_cond, BitVec.toNat_ofNat, Nat.mod_eq_of_lt (by omega), if_pos (by omega)]
  rw [← e, BitVec.toInt_inj]

/-- Looking up a table of 128 entries with one index per row: the entry the row's index names. -/
theorem gather_apply (x : S128.Idx → EReal) (idx : IVec S50000x1 32) (n : Fin 50000) (g : Fin 128)
    (h : idx (ix2 n 0) = BitVec.ofNat 32 g.val) :
    Host.gather gather_S128_S50000x1_S50000_n_0_n_n_0_1_1 x idx (ix1 n) = x (ix1 g) := by
  unfold Host.gather
  refine congrArg x (funext fun a => Fin.ext ?_)
  obtain rfl : a = 0 := Subsingleton.elim _ _
  show GatherDims.start _ (ix1 n) idx 0 + GatherDims.batchCoord _ (ix1 n) 0 + GatherDims.offCoord _ (ix1 n) 0 = g.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S128_S50000x1_S50000_n_0_n_n_0_1_1.startIndexMap from List.mem_singleton.mpr rfl)]
  have hi : GatherDims.siIdx gather_S128_S50000x1_S50000_n_0_n_n_0_1_1 (ix1 n) ⟨List.idxOf (0 : Fin 1) [0],
      List.idxOf_lt_length_iff.2 (List.mem_singleton.mpr rfl)⟩ = ix2 n 0 := by
    funext b
    match b with
    | ⟨0, _⟩ => rfl
    | ⟨1, _⟩ => rfl
  have hg := g.isLt
  refine Eq.trans (congrArg (fun k => min (BitVec.toInt (idx k)).toNat (128 - 1)) hi) ?_
  show min (idx (ix2 n 0)).toInt.toNat (128 - 1) = g.val
  rw [(toInt_eq_iff _ g).mpr h]
  omega

/-- The update of row `n` lands in segment `g` exactly when the row's id is `g`. -/
theorem lands_iff (idx : IVec S50000x1 32) (n : Fin 50000) (g : Fin 128) :
    scatter_S128_S50000x1_S50000_n_0_0_1.resultIdx? (ix1 n) idx = some (ix1 g) ↔ idx (ix2 n 0) = BitVec.ofNat 32 g.val := by
  have hw : scatter_S128_S50000x1_S50000_n_0_0_1.window (ix1 n) 0 = 0 := rfl
  have hs : scatter_S128_S50000x1_S50000_n_0_0_1.start (ix1 n) idx 0 = (idx (ix2 n 0)).toInt := by
    unfold ScatterDims.start
    rw [dif_pos (show (0 : Fin 1) ∈ scatter_S128_S50000x1_S50000_n_0_0_1.scatterDimsToOperandDims from List.mem_singleton.mpr rfl)]
    refine congrArg (fun k => (idx k).toInt) (funext fun b => ?_)
    match b with
    | ⟨0, _⟩ => rfl
    | ⟨1, _⟩ => rfl
  rw [Routing.resultIdx?_eq_some, ← toInt_eq_iff]
  constructor
  · intro h
    have := h 0
    rw [hw, hs] at this
    simpa using this
  · intro h a
    obtain rfl : a = 0 := Subsingleton.elim _ _
    rw [hw, hs, h]
    simp

/-- Adding a number per row into its segment: segment `g` receives the sum over its rows. -/
theorem scatterAdd_apply (x : FVec Ideal S128 .f32) (idx : IVec S50000x1 32) (upd : FVec Ideal S50000 .f32) (g : Fin 128) :
    Host.scatterAdd scatter_S128_S50000x1_S50000_n_0_0_1 x idx upd (ix1 g)
      = x (ix1 g) + ∑ n ∈ Finset.univ.filter (fun n : Fin 50000 => idx (ix2 n 0) = BitVec.ofNat 32 g.val), upd (ix1 n) := by
  show x (ix1 g) + ∑ j ∈ Finset.univ.filter (fun j => scatter_S128_S50000x1_S50000_n_0_0_1.resultIdx? j idx = some (ix1 g)), upd j = _
  rw [Finset.sum_filter, sum_idx1, Finset.sum_filter]
  simp only [lands_iff]

/-- Component `f` of the update of row `n` lands at component `f'` of segment `g` exactly when the row's id is `g` and `f = f'`. -/
theorem lands_iff₂ (idx : IVec S50000x1 32) (n : Fin 50000) (f f' : Fin 512) (g : Fin 128) :
    scatter_S128x512_S50000x1_S50000x512_1_0_0_1.resultIdx? (ix2 n f) idx = some (ix2 g f')
      ↔ idx (ix2 n 0) = BitVec.ofNat 32 g.val ∧ f = f' := by
  have hw0 : scatter_S128x512_S50000x1_S50000x512_1_0_0_1.window (ix2 n f) 0 = 0 := rfl
  have hw1 : scatter_S128x512_S50000x1_S50000x512_1_0_0_1.window (ix2 n f) 1 = f.val := rfl
  have hs1 : scatter_S128x512_S50000x1_S50000x512_1_0_0_1.start (ix2 n f) idx 1 = 0 := rfl
  have hs0 : scatter_S128x512_S50000x1_S50000x512_1_0_0_1.start (ix2 n f) idx 0 = (idx (ix2 n 0)).toInt := by
    unfold ScatterDims.start
    rw [dif_pos (show (0 : Fin 2) ∈ scatter_S128x512_S50000x1_S50000x512_1_0_0_1.scatterDimsToOperandDims from List.mem_singleton.mpr rfl)]
    refine congrArg (fun k => (idx k).toInt) (funext fun b => ?_)
    match b with
    | ⟨0, _⟩ => rfl
    | ⟨1, _⟩ => rfl
  rw [Routing.resultIdx?_eq_some, ← toInt_eq_iff, Fin.forall_fin_two, hw0, hw1, hs0, hs1, Fin.ext_iff]
  show (idx (ix2 n 0)).toInt + ((0 : ℕ) : Int) = (g.val : Int) ∧ (0 : Int) + (f.val : Int) = (f'.val : Int) ↔ _
  omega

/-- Adding a vector per row into its segment: component `f` of segment `g` receives the sum over the segment's rows. -/
theorem scatterAdd_apply₂ (x : FVec Ideal S128x512 .f32) (idx : IVec S50000x1 32) (upd : FVec Ideal S50000x512 .f32) (g : Fin 128)
    (f : Fin 512) :
    Host.scatterAdd scatter_S128x512_S50000x1_S50000x512_1_0_0_1 x idx upd (ix2 g f)
      = x (ix2 g f) + ∑ n ∈ Finset.univ.filter (fun n : Fin 50000 => idx (ix2 n 0) = BitVec.ofNat 32 g.val), upd (ix2 n f) := by
  show x (ix2 g f) + ∑ j ∈ Finset.univ.filter (fun j => scatter_S128x512_S50000x1_S50000x512_1_0_0_1.resultIdx? j idx = some (ix2 g f)), upd j = _
  rw [Finset.sum_filter, sum_idx2, Finset.sum_filter]
  simp only [lands_iff₂]
  refine congrArg (fun y => x (ix2 g f) + y) (Finset.sum_congr rfl fun n _ => ?_)
  by_cases h : idx (ix2 n 0) = BitVec.ofNat 32 g.val
  · simp only [h, true_and, if_true]
    rw [Finset.sum_ite_eq', if_pos (Finset.mem_univ f)]
  · simp only [h, false_and, if_false, Finset.sum_const_zero]

end Cert.ReferenceIdeal.Lookup

end
-- ==== Proof.Softmax.lean ====
/-
  The mathematics of a segmented softmax computed block by block, over the extended reals.

  There are 50000 rows, read in 25 blocks of 2000 rows. Row `n` has a score `s n`, a segment id `B n`, and non-negative
  weights. For a segment `g` and the rows of the first `t` blocks we write `peak` for the greatest score of the segment,
  `mass` for the sum of `exp (score - peak)` and `gathered` for the weighted sum of the same exponentials. One block turns
  the three quantities of `t` blocks into those of `t + 1` blocks by a rescaling (`peak_succ`, `mass_succ`,
  `gathered_succ`); at the end `gathered / mass` is the softmax-weighted sum (`pooled_eq`).
-/
module

public import Idealize.ShloMosaic.PureOps.Ideal

@[expose] public section

noncomputable section

namespace Cert.Softmax

open Idealize.ShloMosaic

/-- Row `r` of block `t`, as a row of the whole array. -/
def row (t : Fin 25) (r : Fin 2000) : Fin 50000 :=
  ⟨2000 * t.val + r.val, by have := t.isLt; have := r.isLt; omega⟩

/-- The number of row `r` of block `t`. -/
theorem row_val (t : Fin 25) (r : Fin 2000) : (row t r).val = 2000 * t.val + r.val := rfl

/-- Different rows of a block are different rows of the array. -/
theorem row_injective (t : Fin 25) : Function.Injective (row t) := fun a b h => by
  have h' := congrArg Fin.val h
  simp only [row_val] at h'
  exact Fin.ext (by omega)

/-- Row `n` belongs to segment `g`: its id is the word `g`. -/
abbrev Member (B : Fin 50000 → BitVec 32) (g : Fin 128) (n : Fin 50000) : Prop := B n = BitVec.ofNat 32 g.val

/-- The rows of segment `g` in the first `t` blocks. -/
def rows (B : Fin 50000 → BitVec 32) (t : ℕ) (g : Fin 128) : Finset (Fin 50000) :=
  Finset.univ.filter fun n => n.val < 2000 * t ∧ Member B g n

/-- Which rows are in a segment's first blocks. -/
theorem mem_rows {B : Fin 50000 → BitVec 32} {t : ℕ} {g : Fin 128} {n : Fin 50000} :
    n ∈ rows B t g ↔ n.val < 2000 * t ∧ Member B g n := by simp [rows]

/-- No block, no row. -/
theorem rows_zero (B : Fin 50000 → BitVec 32) (g : Fin 128) : rows B 0 g = ∅ := by
  ext n; simp [mem_rows]

/-- All 25 blocks hold all rows of a segment. -/
theorem rows_all (B : Fin 50000 → BitVec 32) (g : Fin 128) : rows B 25 g = Finset.univ.filter (Member B g) := by
  ext n
  have := n.isLt
  simp only [mem_rows, Finset.mem_filter, Finset.mem_univ, true_and]
  exact ⟨fun h => h.2, fun h => ⟨by omega, h⟩⟩

/-- The rows of segment `g` that block `t` adds. -/
def added (B : Fin 50000 → BitVec 32) (t : Fin 25) (g : Fin 128) : Finset (Fin 50000) :=
  (Finset.univ.filter fun r : Fin 2000 => Member B g (row t r)).map ⟨row t, row_injective t⟩

/-- One block more adds its own rows of the segment. -/
theorem rows_succ (B : Fin 50000 → BitVec 32) (t : Fin 25) (g : Fin 128) :
    rows B (t.val + 1) g = rows B t.val g ∪ added B t g := by
  ext n
  simp only [Finset.mem_union, mem_rows, added, Finset.mem_map, Finset.mem_filter, Finset.mem_univ, true_and,
    Function.Embedding.coeFn_mk]
  constructor
  · rintro ⟨h, hm⟩
    by_cases hn : n.val < 2000 * t.val
    · exact Or.inl ⟨hn, hm⟩
    · have e : row t ⟨n.val - 2000 * t.val, by omega⟩ = n := Fin.ext (by rw [row_val]; show 2000 * t.val + (n.val - 2000 * t.val) = n.val; omega)
      exact Or.inr ⟨_, by rw [e]; exact hm, e⟩
  · rintro (⟨h, hm⟩ | ⟨r, hm, rfl⟩)
    · exact ⟨by omega, hm⟩
    · exact ⟨by have := r.isLt; rw [row_val]; omega, hm⟩

/-- The rows a block adds were not read before. -/
theorem rows_disjoint (B : Fin 50000 → BitVec 32) (t : Fin 25) (g : Fin 128) :
    Disjoint (rows B t.val g) (added B t g) := by
  rw [Finset.disjoint_left]
  intro n hn ha
  obtain ⟨r, -, rfl⟩ := Finset.mem_map.mp ha
  have h := (mem_rows.mp hn).1
  change (row t r).val < _ at h
  rw [row_val] at h
  omega

/-- A sum over the segment's rows of `t + 1` blocks: the sum over those of `t` blocks plus the block's own, the rows of other
    segments counted as zero. -/
theorem sum_rows_succ (B : Fin 50000 → BitVec 32) (t : Fin 25) (g : Fin 128) (h : Fin 50000 → EReal) :
    ∑ n ∈ rows B (t.val + 1) g, h n
      = ∑ n ∈ rows B t.val g, h n + ∑ r : Fin 2000, if Member B g (row t r) then h (row t r) else 0 := by
  rw [rows_succ, Finset.sum_union (rows_disjoint B t g), added, Finset.sum_map, Finset.sum_filter]
  rfl

/-- The greatest score of segment `g` in the first `t` blocks, `⊥` if it has no row there. -/
def peak (s : Fin 50000 → EReal) (B : Fin 50000 → BitVec 32) (t : ℕ) (g : Fin 128) : EReal := (rows B t g).sup s

/-- The weighted sum of `exp (score - peak)` over the segment's rows of the first `t` blocks. -/
def gathered (s f : Fin 50000 → EReal) (B : Fin 50000 → BitVec 32) (t : ℕ) (g : Fin 128) : EReal :=
  ∑ n ∈ rows B t g, f n * Ideal.exp (s n - peak s B t g)

/-- The sum of `exp (score - peak)` over the segment's rows of the first `t` blocks. -/
def mass (s : Fin 50000 → EReal) (B : Fin 50000 → BitVec 32) (t : ℕ) (g : Fin 128) : EReal :=
  ∑ n ∈ rows B t g, Ideal.exp (s n - peak s B t g)

/-- Before the first block there is no score. -/
theorem peak_zero (s : Fin 50000 → EReal) (B : Fin 50000 → BitVec 32) (g : Fin 128) : peak s B 0 g = ⊥ := by
  rw [peak, rows_zero, Finset.sup_empty]

/-- Before the first block the sum of exponentials is zero. -/
theorem mass_zero (s : Fin 50000 → EReal) (B : Fin 50000 → BitVec 32) (g : Fin 128) : mass s B 0 g = 0 := by
  rw [mass, rows_zero, Finset.sum_empty]

/-- Before the first block the weighted sum is zero. -/
theorem gathered_zero (s f : Fin 50000 → EReal) (B : Fin 50000 → BitVec 32) (g : Fin 128) : gathered s f B 0 g = 0 := by
  rw [gathered, rows_zero, Finset.sum_empty]

/-- A supremum of a masked family is the supremum over the rows the mask keeps. -/
theorem sup_masked {ι : Type} (A : Finset ι) (p : ι → Prop) [DecidablePred p] (h : ι → EReal) :
    (A.filter p).sup h = A.sup fun i => if p i then h i else ⊥ := by
  apply le_antisymm
  · refine Finset.sup_le fun i hi => ?_
    obtain ⟨hA, hp⟩ := Finset.mem_filter.mp hi
    exact le_trans (by rw [if_pos hp]) (Finset.le_sup (f := fun i => if p i then h i else ⊥) hA)
  · refine Finset.sup_le fun i hi => ?_
    by_cases hp : p i
    · rw [if_pos hp]; exact Finset.le_sup (Finset.mem_filter.mpr ⟨hi, hp⟩)
    · rw [if_neg hp]; exact bot_le

/-- One block raises the peak to the greater of the old one and the block's own greatest score. -/
theorem peak_succ (s : Fin 50000 → EReal) (B : Fin 50000 → BitVec 32) (t : Fin 25) (g : Fin 128) :
    peak s B (t.val + 1) g
      = max (peak s B t.val g) (Finset.univ.fold max ⊥ fun r : Fin 2000 => if Member B g (row t r) then s (row t r) else ⊥) := by
  rw [peak, rows_succ, Finset.sup_union, added, Finset.sup_map, sup_masked]
  rfl

/-- No score of a segment is above its peak. -/
theorem le_peak (s : Fin 50000 → EReal) {B : Fin 50000 → BitVec 32} {t : ℕ} {g : Fin 128} {n : Fin 50000} (hn : n ∈ rows B t g) :
    s n ≤ peak s B t g := Finset.le_sup hn

/-- The peak of a segment with a row is the score of one of its rows. -/
theorem exists_peak (s : Fin 50000 → EReal) {B : Fin 50000 → BitVec 32} {t : ℕ} {g : Fin 128} {n : Fin 50000}
    (hn : n ∈ rows B t g) : ∃ k ∈ rows B t g, peak s B t g = s k := Finset.exists_mem_eq_sup _ ⟨n, hn⟩ s

/-- More blocks don't lower a peak. -/
theorem peak_mono (s : Fin 50000 → EReal) (B : Fin 50000 → BitVec 32) (t : Fin 25) (g : Fin 128) :
    peak s B t.val g ≤ peak s B (t.val + 1) g :=
  Finset.sup_mono fun n hn => by rw [rows_succ]; exact Finset.mem_union_left _ hn

/-- The exponential is not negative. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- A factor goes into a sum of non-negative extended reals. -/
theorem sum_mul_of_nonneg {ι : Type} (A : Finset ι) (h : ι → EReal) (hh : ∀ i ∈ A, 0 ≤ h i) (c : EReal) :
    (∑ i ∈ A, h i) * c = ∑ i ∈ A, h i * c := by
  classical
  induction A using Finset.induction_on with
  | empty => simp
  | insert a A ha ih =>
    have hA : ∀ i ∈ A, 0 ≤ h i := fun i hi => hh i (Finset.mem_insert_of_mem hi)
    rw [Finset.sum_insert ha, Finset.sum_insert ha,
      EReal.right_distrib_of_nonneg (hh a (Finset.mem_insert_self a A)) (Finset.sum_nonneg hA), ih hA]

/-- The factor by which the sums of the rows read so far are rescaled when the peak moves from `M` to `M'`. -/
def scale (M M' : EReal) : EReal := if M' = ⊥ then 1 else Ideal.exp (M - M')

/-- Rescaling the exponential of a score no greater than the old peak. Minus infinity and infinity are no exception: an
    exponential of a score of minus infinity, or under a peak of infinity, is zero. -/
theorem exp_rescale {x M M' : EReal} (h : x ≤ M) (h' : M ≤ M') : Ideal.exp (x - M) * scale M M' = Ideal.exp (x - M') := by
  induction x using EReal.rec with
  | bot => rw [EReal.bot_sub, EReal.bot_sub, Ideal.exp_bot, zero_mul]
  | top =>
    rw [top_le_iff.mp h, top_le_iff.mp ((top_le_iff.mp h).ge.trans h'), EReal.sub_top, Ideal.exp_bot, zero_mul]
  | coe a =>
    have hM : M ≠ ⊥ := fun e => EReal.coe_ne_bot a (le_bot_iff.mp (e ▸ h))
    have hM' : M' ≠ ⊥ := fun e => hM (le_bot_iff.mp (e ▸ h'))
    rw [scale, if_neg hM']
    by_cases hT : M' = ⊤
    · rw [hT, EReal.sub_top, EReal.sub_top, Ideal.exp_bot, mul_zero]
    · lift M' to ℝ using ⟨hT, hM'⟩
      lift M to ℝ using ⟨fun e => hT (top_le_iff.mp (e ▸ h')), hM⟩
      rw [← EReal.coe_sub, ← EReal.coe_sub, ← EReal.coe_sub, Ideal.exp_coe, Ideal.exp_coe, Ideal.exp_coe, ← EReal.coe_mul,
        ← Real.exp_add]
      rw [show a - M + (M - M') = a - M' by ring]

/-- Rescaling replaces the old peak by the new one under every exponential. -/
theorem rescale {s f : Fin 50000 → EReal} (hf : ∀ n, 0 ≤ f n) (B : Fin 50000 → BitVec 32) (t : Fin 25) (g : Fin 128) :
    gathered s f B t.val g * scale (peak s B t.val g) (peak s B (t.val + 1) g)
      = ∑ n ∈ rows B t.val g, f n * Ideal.exp (s n - peak s B (t.val + 1) g) := by
  rw [gathered, sum_mul_of_nonneg _ _ fun n _ => mul_nonneg (hf n) (exp_nonneg _)]
  refine Finset.sum_congr rfl fun n hn => ?_
  rw [mul_assoc, exp_rescale (le_peak s hn) (peak_mono s B t g)]

/-- One block of the weighted sum: rescale what is there, add the block's own rows. -/
theorem gathered_succ {s f : Fin 50000 → EReal} (hf : ∀ n, 0 ≤ f n) (B : Fin 50000 → BitVec 32)
    (t : Fin 25) (g : Fin 128) :
    gathered s f B (t.val + 1) g
      = gathered s f B t.val g * scale (peak s B t.val g) (peak s B (t.val + 1) g)
        + ∑ r : Fin 2000, f (row t r)
            * (if Member B g (row t r) then Ideal.exp (s (row t r) - peak s B (t.val + 1) g) else 0) := by
  rw [rescale hf, gathered, sum_rows_succ]
  congr 1
  refine Finset.sum_congr rfl fun r _ => ?_
  split
  · rfl
  · rw [mul_zero]

/-- The sum of exponentials is the weighted sum for weights of one. -/
theorem mass_eq_gathered (s : Fin 50000 → EReal) (B : Fin 50000 → BitVec 32) (t : ℕ) (g : Fin 128) :
    mass s B t g = gathered s (fun _ => 1) B t g := by
  rw [mass, gathered]
  exact Finset.sum_congr rfl fun n _ => (one_mul _).symm

/-- One block of the sum of exponentials. -/
theorem mass_succ (s : Fin 50000 → EReal) (B : Fin 50000 → BitVec 32) (t : Fin 25) (g : Fin 128) :
    mass s B (t.val + 1) g
      = mass s B t.val g * scale (peak s B t.val g) (peak s B (t.val + 1) g)
        + ∑ r : Fin 2000, if Member B g (row t r) then Ideal.exp (s (row t r) - peak s B (t.val + 1) g) else 0 := by
  rw [mass_eq_gathered, mass_eq_gathered, gathered_succ fun _ => zero_le_one]
  congr 1
  exact Finset.sum_congr rfl fun r _ => one_mul _

/-- A sum of exponentials is not negative. -/
theorem mass_nonneg (s : Fin 50000 → EReal) (B : Fin 50000 → BitVec 32) (t : ℕ) (g : Fin 128) : 0 ≤ mass s B t g :=
  Finset.sum_nonneg fun _ _ => exp_nonneg _

/-- No exponential of a segment is greater than their sum. -/
theorem exp_le_mass (s : Fin 50000 → EReal) {B : Fin 50000 → BitVec 32} {t : ℕ} {g : Fin 128} {n : Fin 50000}
    (hn : n ∈ rows B t g) : Ideal.exp (s n - peak s B t g) ≤ mass s B t g :=
  Finset.single_le_sum (f := fun n => Ideal.exp (s n - peak s B t g)) (fun _ _ => exp_nonneg _) hn

/-- A segment whose peak is a real number has a positive sum of exponentials: the peak's own is one. -/
theorem mass_pos {s : Fin 50000 → EReal} {B : Fin 50000 → BitVec 32} {t : ℕ} {g : Fin 128} {r : ℝ}
    (h : peak s B t g = (r : EReal)) : 0 < mass s B t g := by
  have hne : (rows B t g).Nonempty := by
    by_contra he
    rw [peak, Finset.not_nonempty_iff_eq_empty.mp he, Finset.sup_empty] at h
    exact EReal.coe_ne_bot r h.symm
  obtain ⟨n, hn⟩ := hne
  obtain ⟨k, hk, e⟩ := exists_peak s hn
  refine lt_of_lt_of_le ?_ (exp_le_mass s hk)
  rw [← e, h, ← EReal.coe_sub, Ideal.exp_coe]
  exact_mod_cast Real.exp_pos _

/-- What the exponentials of a segment are divided by: their sum, or one if that is zero. -/
def divisor (s : Fin 50000 → EReal) (B : Fin 50000 → BitVec 32) (t : ℕ) (g : Fin 128) : EReal :=
  if 0 < mass s B t g then mass s B t g else 1

/-- The divisor is not zero. -/
theorem divisor_ne_zero (s : Fin 50000 → EReal) (B : Fin 50000 → BitVec 32) (t : ℕ) (g : Fin 128) : divisor s B t g ≠ 0 := by
  unfold divisor
  split
  · next h => exact h.ne'
  · exact one_ne_zero

/-- The pooled value of a segment: its weighted sum over its mass if the mass is positive, else zero, is the sum over its rows
    of the softmax weight times the row's own weight. -/
theorem pooled_eq {s f : Fin 50000 → EReal} (hf : ∀ n, 0 ≤ f n) (B : Fin 50000 → BitVec 32) (t : ℕ) (g : Fin 128) :
    (if 0 < mass s B t g then Ideal.div (gathered s f B t g) (mass s B t g) else 0)
      = ∑ n ∈ rows B t g, Ideal.div (Ideal.exp (s n - peak s B t g)) (divisor s B t g) * f n := by
  by_cases hp : 0 < mass s B t g
  · rw [if_pos hp, divisor, if_pos hp, Ideal.div, if_neg hp.ne', gathered,
      sum_mul_of_nonneg _ _ fun n _ => mul_nonneg (hf n) (exp_nonneg _)]
    refine Finset.sum_congr rfl fun k _ => ?_
    rw [Ideal.div, if_neg hp.ne', mul_assoc, mul_comm]
  · rw [if_neg hp]
    refine (Finset.sum_eq_zero fun n hn => ?_).symm
    have h0 : Ideal.exp (s n - peak s B t g) = 0 :=
      le_antisymm ((exp_le_mass s hn).trans (not_lt.mp hp)) (exp_nonneg _)
    rw [h0, Ideal.div, if_neg (divisor_ne_zero s B t g), zero_mul, zero_mul]

/-- What the plain softmax subtracts from the scores: the peak where it is a real number, zero elsewhere. -/
def centre (p : EReal) : EReal := if ⊥ < p ∧ p < ⊤ then p else 0

/-- The plain softmax weight is the guarded one when the segment's peak is above minus infinity. Under a peak of infinity both
    are zero: the guarded one divides zero by one, and the plain one divides by infinity. -/
theorem plain_eq {s : Fin 50000 → EReal} {B : Fin 50000 → BitVec 32} {t : ℕ} {g : Fin 128} {n : Fin 50000}
    (hn : n ∈ rows B t g) (hp : ⊥ < peak s B t g) :
    Ideal.div (Ideal.exp (s n - centre (peak s B t g))) (∑ k ∈ rows B t g, Ideal.exp (s k - centre (peak s B t g)))
      = Ideal.div (Ideal.exp (s n - peak s B t g)) (divisor s B t g) := by
  by_cases hT : peak s B t g = ⊤
  · obtain ⟨k, hk, e⟩ := exists_peak s hn
    have hc : centre (peak s B t g) = 0 := by rw [centre, if_neg fun h => h.2.ne hT]
    have hm : ∑ k ∈ rows B t g, Ideal.exp (s k - 0) = ⊤ := by
      refine top_le_iff.mp (le_trans ?_ (Finset.single_le_sum (f := fun k => Ideal.exp (s k - 0)) (fun _ _ => exp_nonneg _) hk))
      show ⊤ ≤ Ideal.exp (s k - 0)
      rw [← e, hT, sub_zero, Ideal.exp_top]
    rw [hc, hm, hT, EReal.sub_top, Ideal.exp_bot, Ideal.div, Ideal.div, if_neg EReal.top_ne_zero,
      if_neg (divisor_ne_zero s B t g), EReal.inv_top, mul_zero, zero_mul]
  · have hc : centre (peak s B t g) = peak s B t g := by rw [centre, if_pos ⟨hp, lt_top_iff_ne_top.mpr hT⟩]
    have hm : 0 < mass s B t g := mass_pos (EReal.coe_toReal hT hp.ne').symm
    rw [hc, divisor, if_pos hm, mass]

end Cert.Softmax

end
-- ==== Proof.Row.lean ====
/-
  What one row of the pooling computes: its gate score and its features, over the extended reals.
-/
module

public import Idealize.ShloMosaic.PureOps.Ideal

@[expose] public section

noncomputable section

namespace Cert.Row

open Idealize.ShloMosaic

/-- The gate score of a row: a hidden layer of 256 rectified units, then their weighted sum plus a bias. -/
def score (x : Fin 512 → EReal) (w₁ : Fin 512 → Fin 256 → EReal) (b₁ w₂ : Fin 256 → EReal) (b₂ : EReal) : EReal :=
  (∑ k : Fin 256, max ((∑ j : Fin 512, x j * w₁ j k) + b₁ k) 0 * w₂ k) + b₂

/-- One feature of a row: a rectified linear unit. -/
def feature (x : Fin 512 → EReal) (w : Fin 512 → EReal) (b : EReal) : EReal := max ((∑ j : Fin 512, x j * w j) + b) 0

/-- A rectified unit is not negative. -/
theorem feature_nonneg (x w : Fin 512 → EReal) (b : EReal) : 0 ≤ feature x w b := le_max_right _ _

end Cert.Row

end
-- ==== Proof.Spec.lean ====
/-
  The pooling as functions of its arguments: every row's score, id and features, and the two results.
-/
module

public import proofs.«01_k».proof.Proof.Softmax
public import proofs.«01_k».proof.Proof.Row
public import Idealize.ShloMosaic.Lib.Pointwise

@[expose] public section

noncomputable section

namespace Cert.Spec

open Idealize.ShloMosaic Cert.Softmax

/-- The arguments: rows, ids, and the two layers' weights and biases. -/
structure Args where
  x : FVec Ideal ⟨2, ![50000, 512]⟩ .f32
  ids : IVec ⟨1, ![50000]⟩ 32
  w₁ : FVec Ideal ⟨2, ![512, 256]⟩ .f32
  b₁ : FVec Ideal ⟨1, ![256]⟩ .f32
  w₂ : FVec Ideal ⟨2, ![256, 1]⟩ .f32
  b₂ : FVec Ideal ⟨1, ![1]⟩ .f32
  wf : FVec Ideal ⟨2, ![512, 512]⟩ .f32
  bf : FVec Ideal ⟨1, ![512]⟩ .f32

variable (a : Args)

/-- The gate score of row `n`. -/
def Args.score (n : Fin 50000) : EReal :=
  Row.score (fun j => a.x (ix2 n j)) (fun j k => a.w₁ (ix2 j k)) (fun k => a.b₁ (ix1 k)) (fun k => a.w₂ (ix2 k 0)) (a.b₂ (ix1 0))

/-- The segment id of row `n`. -/
def Args.id (n : Fin 50000) : BitVec 32 := a.ids (ix1 n)

/-- Feature `f` of row `n`. -/
def Args.feature (f : Fin 512) (n : Fin 50000) : EReal :=
  Row.feature (fun j => a.x (ix2 n j)) (fun j => a.wf (ix2 j f)) (a.bf (ix1 f))

/-- A feature is not negative. -/
theorem Args.feature_nonneg (f : Fin 512) (n : Fin 50000) : 0 ≤ a.feature f n := Row.feature_nonneg _ _ _

/-- What the two results are claimed for: ids of segments, and a greatest score above minus infinity in every segment with a
    row. -/
structure Args.Good : Prop where
  id_mem : ∀ n, ∃ g : Fin 128, a.id n = BitVec.ofNat 32 g.val
  peak_gt : ∀ n (g : Fin 128), a.id n = BitVec.ofNat 32 g.val → ⊥ < peak a.score a.id 25 g

/-- The softmax weight of row `n` within segment `g`. -/
def Args.alpha (n : Fin 50000) (g : Fin 128) : EReal :=
  Ideal.div (Ideal.exp (a.score n - peak a.score a.id 25 g)) (divisor a.score a.id 25 g)

/-- Feature `f` of segment `g`: the softmax-weighted sum of its rows' features. -/
def Args.embedding (g : Fin 128) (f : Fin 512) : EReal := ∑ n ∈ rows a.id 25 g, a.alpha n g * a.feature f n

end Cert.Spec

end
-- ==== Proof.Words.lean ====
/-
  Words the program is written with: minus infinity, infinity, mask bits, and the ids of the segments.
-/
module

public import Idealize.ShloMosaic.PureOps.Ideal
public import Idealize.ShloMosaic.Lib.WordCmp

@[expose] public section

noncomputable section

namespace Cert.Words

open Idealize.ShloMosaic

/-- The word of minus infinity. -/
theorem negInf : Ideal.ofBits .f32 0xFF800000#32 = (⊥ : EReal) := by
  simp [Ideal.ofBits, Ideal.ieee]

/-- The word of infinity. -/
theorem posInf : Ideal.ofBits .f32 0x7F800000#32 = (⊤ : EReal) := by
  simp [Ideal.ofBits, Ideal.ieee]

/-- A selection by the mask bit of a proposition. -/
theorem select_ite {α : Type} (p : Prop) [Decidable p] (a b : α) :
    Scalar.select (if p then 1#1 else 0#1) a b = if p then a else b := by
  split <;> rfl

/-- The comparison for equality, as the mask bit of the equation. -/
theorem cmpi_eq {w : ℕ} (a b : BitVec w) : IntOp.cmpi .eq a b = if a = b then 1#1 else 0#1 := by
  unfold IntOp.cmpi
  by_cases h : a = b
  · rw [if_pos h, h]; simp
  · rw [if_neg h, beq_eq_false_iff_ne.mpr h]; rfl

/-- The ids of different segments are different words. -/
theorem ofNat_inj {g h : Fin 128} : BitVec.ofNat 32 g.val = BitVec.ofNat 32 h.val ↔ g = h := by
  constructor
  · intro e
    have e' := congrArg BitVec.toNat e
    simp only [BitVec.toNat_ofNat] at e'
    have := g.isLt
    have := h.isLt
    exact Fin.ext (by omega)
  · rintro rfl; rfl

/-- A sum over the segments masked by a row's id picks that segment's term. -/
theorem sum_pick (f : Fin 128 → EReal) {b : BitVec 32} {g : Fin 128} (hb : b = BitVec.ofNat 32 g.val) :
    (∑ k : Fin 128, if b = BitVec.ofNat 32 k.val then f k else 0) = f g := by
  subst hb
  simp only [ofNat_inj]
  rw [Finset.sum_ite_eq, if_pos (Finset.mem_univ g)]

end Cert.Words

end
-- ==== Proof.Reference.lean ====
/-
  What the reference computes, read at an index: the softmax weight of every row, and the weighted sum of every segment.
-/
module

public import proofs.«01_k».proof.Proof.Gen.ReferenceIdeal.Read
public import proofs.«01_k».proof.Proof.Lookup
public import proofs.«01_k».proof.Proof.Spec
public import proofs.«01_k».proof.Proof.Words

@[expose] public section

noncomputable section

namespace Cert.ReferenceIdeal.Reference

open Idealize.ShloMosaic
open Cert.ReferenceIdeal Cert.ReferenceIdeal.Gen Cert.ReferenceIdeal.Read Cert.Softmax Cert.Spec Cert.Words

variable (a : Args)

/-- The gate score of a row. -/
theorem score_apply (n : Fin 50000) : val_main_v10 (F := Ideal) a.x a.w₁ a.b₁ a.w₂ a.b₂ (ix1 n) = a.score n := by
  unfold Args.score Row.score
  pointwise [val_main_v10, val_main_v9, val_main_v8, val_main_v7, val_main_v6, val_main_v5, val_main_v4, val_main_v3, val_main_v2, val_main_v1, val_main_v0, val_main_cst]

/-- The greatest score of a segment, minus infinity if it is empty. -/
theorem peak_apply (g : Fin 128) :
    val_main_v19 (F := Ideal) a.x a.ids a.w₁ a.b₁ a.w₂ a.b₂ (ix1 g) = peak a.score a.id 25 g := by
  pointwise [val_main_v19, val_main_v18, val_main_v17, val_main_call0_v0, val_main_call0_v1, val_main_call0_v2, val_main_v16, val_main_v15, val_main_v14, val_main_v13, val_main_v12, val_main_v11, val_main_cst_0, val_main_cst_1, score_apply a]
  rw [negInf]
  simp only [cmpi_eq, select_ite]
  rw [peak, rows_all, sup_masked]
  exact Finset.fold_congr fun n _ => by rw [show id (constant (F := Ideal) S_ .f32 0xFF800000#32) ix0 = (⊥ : EReal) from negInf]; rfl

/-- The table the rows look their peak up in: the greatest score where it is a number, zero elsewhere. -/
theorem table_apply (g : Fin 128) (p : EReal)
    (hp : val_main_v19 (F := Ideal) a.x a.ids a.w₁ a.b₁ a.w₂ a.b₂ (ix1 g) = p) :
    val_main_v25 (F := Ideal) a.x a.ids a.w₁ a.b₁ a.w₂ a.b₂ (ix1 g) = centre p := by
  unfold centre
  rw [val_main_v25_apply, val_main_v24_apply, val_main_v23_apply, val_main_v21_apply, hp]
  pointwise [val_main_v22, val_main_v20, val_main_call1_v0, val_main_call1_v1, val_main_cst_2, val_main_cst_3, val_main_cst_4]
  rw [show id (constant (F := Ideal) S_ .f32 0x00000000#32) ix0 = (0 : EReal) from Ideal.ofBits_zero .f32, negInf, posInf]
  by_cases h₁ : ⊥ < p
  · by_cases h₂ : p < ⊤
    · rw [decide_eq_true h₁, decide_eq_true h₂, if_pos ⟨h₁, h₂⟩]; rfl
    · rw [decide_eq_false h₂, if_neg fun h => h₂ h.2, decide_eq_true h₁]; rfl
  · rw [decide_eq_false h₁, if_neg fun h => h₁ h.1]
    cases decide (p < ⊤) <;> rfl

/-- A row that looks up at its own id: a segment's id is not negative, so it is not shifted. -/
theorem wrapped (b : BitVec 32) (g : Fin 128) (h : b = BitVec.ofNat 32 g.val) :
    Scalar.select (IntOp.cmpi .slt b 0#32) (IntOp.addi b 128#32) b = b := by
  have hg := g.isLt
  rw [WordCmp.cmpi_slt_zero, h, BitVec.toNat_ofNat, decide_eq_false (by omega)]
  rfl

/-- The index with which a row looks its peak up: its id. -/
theorem index_apply (n : Fin 50000) (g : Fin 128) (h : a.id n = BitVec.ofNat 32 g.val) :
    val_main_v31 (F := Ideal) a.ids (ix2 n 0) = BitVec.ofNat 32 g.val := by
  pointwise [val_main_v31, val_main_v30, val_main_v29, val_main_v28, val_main_v27, val_main_v26, val_main_c, val_main_c_5]
  exact (wrapped _ g h).trans h

/-- The index with which a row looks its sum up: its id. -/
theorem index_apply' (n : Fin 50000) (g : Fin 128) (h : a.id n = BitVec.ofNat 32 g.val) :
    val_main_v43 (F := Ideal) a.ids (ix2 n 0) = BitVec.ofNat 32 g.val := by
  pointwise [val_main_v43, val_main_v42, val_main_v41, val_main_v40, val_main_v39, val_main_v38, val_main_c_7, val_main_c_8]
  exact (wrapped _ g h).trans h

/-- The exponential of a row's score less what its segment's scores are centred at. -/
theorem exp_apply (n : Fin 50000) (g : Fin 128) (h : a.id n = BitVec.ofNat 32 g.val) :
    val_main_v34 (F := Ideal) a.x a.ids a.w₁ a.b₁ a.w₂ a.b₂ (ix1 n) = Ideal.exp (a.score n - centre (peak a.score a.id 25 g)) := by
  rw [val_main_v34_apply, val_main_v33_apply, score_apply, val_main_v32, Lookup.gather_apply _ _ n g (index_apply a n g h),
    table_apply a g _ (peak_apply a g)]
  rfl

/-- The sum of a segment's exponentials. -/
theorem mass_apply (g : Fin 128) :
    val_main_v37 (F := Ideal) a.x a.ids a.w₁ a.b₁ a.w₂ a.b₂ (ix1 g)
      = ∑ n ∈ rows a.id 25 g, Ideal.exp (a.score n - centre (peak a.score a.id 25 g)) := by
  rw [val_main_v37, Lookup.scatterAdd_apply, rows_all]
  have hz : val_main_v35 (F := Ideal) (ix1 g) = 0 := by pointwise [val_main_v35, val_main_cst_6]
  have hi : ∀ n, val_main_v36 (F := Ideal) a.ids (ix2 n 0) = a.id n := fun n => by pointwise [val_main_v36]; rfl
  simp only [hz, hi, zero_add]
  exact Finset.sum_congr rfl fun n hn => exp_apply a n g (Finset.mem_filter.mp hn).2

variable {a} (ha : a.Good)
include ha

/-- The softmax weight of a row. -/
theorem alpha_apply (n : Fin 50000) (g : Fin 128) (h : a.id n = BitVec.ofNat 32 g.val) :
    val_main_v45 (F := Ideal) a.x a.ids a.w₁ a.b₁ a.w₂ a.b₂ (ix1 n) = a.alpha n g := by
  rw [val_main_v45_apply, exp_apply a n g h, val_main_v44, Lookup.gather_apply _ _ n g (index_apply' a n g h), mass_apply a]
  exact plain_eq (mem_rows.mpr ⟨n.isLt, h⟩) (ha.peak_gt n g h)

/-- A feature of a segment. -/
theorem embedding_apply (g : Fin 128) (f : Fin 512) :
    val_main_v57 (F := Ideal) a.x a.ids a.w₁ a.b₁ a.w₂ a.b₂ a.wf a.bf (ix2 g f) = a.embedding g f := by
  rw [val_main_v57, Lookup.scatterAdd_apply₂, Args.embedding, rows_all]
  have hz : val_main_v55 (F := Ideal) (ix2 g f) = 0 := by pointwise [val_main_v55, val_main_cst_10]
  have hi : ∀ n, val_main_v56 (F := Ideal) a.ids (ix2 n 0) = a.id n := fun n => by pointwise [val_main_v56]; rfl
  have hf : ∀ n, val_main_v51 (F := Ideal) a.x a.wf a.bf (ix2 n f) = a.feature f n := fun n => by
    unfold Args.feature Row.feature
    pointwise [val_main_v51, val_main_v50, val_main_v49, val_main_v48, val_main_v47, val_main_v46, val_main_cst_9]
  have hw : ∀ n, val_main_v53 (F := Ideal) a.x a.ids a.w₁ a.b₁ a.w₂ a.b₂ (ix2 n f)
      = val_main_v45 (F := Ideal) a.x a.ids a.w₁ a.b₁ a.w₂ a.b₂ (ix1 n) := fun n => by
    pointwise [val_main_v53, val_main_v52]
  simp only [hz, hi, zero_add]
  refine Finset.sum_congr rfl fun n hn => ?_
  rw [val_main_v54_apply, hw, hf, alpha_apply ha n g (Finset.mem_filter.mp hn).2]
  rfl

end Cert.ReferenceIdeal.Reference

end
-- ==== Proof.Block.lean ====
/-
  What one block of 2000 rows computes, read at an index: the scores of its rows, the greatest score of each segment so far,
  the factor that rescales the sums so far, the exponentials of the block's rows, and the two sums.
-/
module

public import proofs.«01_k».proof.Proof.Gen.KernelIdeal.Skeleton
public import proofs.«01_k».proof.Proof.Softmax
public import proofs.«01_k».proof.Proof.Words
public import proofs.«01_k».proof.Proof.Row
public import Idealize.ShloMosaic.Lib.Pointwise

@[expose] public section

noncomputable section

namespace Cert.KernelIdeal.Block

open Idealize.ShloMosaic
open Cert.KernelIdeal Cert.KernelIdeal.Gen Cert.Softmax Cert.Words

/-- Every row of every block is a row of the array: the bounds mask is all ones. -/
theorem valid_apply (i : grid0.Coords) (r : Fin 2000) (l : Fin 1) : k0_pay6 i (ix2 r l) = 1#1 := by
  pointwise [k0_pay6]
  have h : (i 0).val < 25 := (i 0).isLt
  rw [show (Scalar.muli (BitVec.ofNat 32 (i 0).val) 2000#32) = BitVec.ofNat 32 ((i 0).val * 2000) from (BitVec.ofNat_mul ..).symm,
    show IntOp.addi (BitVec.ofNat 32 ((i 0).val * 2000)) (BitVec.ofNat 32 r.val) = BitVec.ofNat 32 ((i 0).val * 2000 + r.val)
      from (BitVec.ofNat_add ..).symm,
    WordCmp.cmpi_slt_ofNat (by have := r.isLt; norm_num; omega) (by norm_num), decide_eq_true (by have := r.isLt; omega)]
  rfl

/-- So masking the rows changes nothing. -/
theorem masked_eq (i : grid0.Coords) (x : Vec Ideal S2000x512 .f32) : k0_pay7 i x = x := by
  have h : ∀ r c, k0_pay7 i x (ix2 r c) = x (ix2 r c) := fun r c => by
    pointwise [k0_pay7, valid_apply]
  funext j
  rw [eq_ix2 j]
  exact h _ _

/-- The block's scores. -/
theorem score_apply (i : grid0.Coords) (x : Vec Ideal S2000x512 .f32) (w₁ : Vec Ideal S512x256 .f32) (b₁ w₂ : Vec Ideal S1x256 .f32)
    (b₂ : Vec Ideal S1x1 .f32) (r : Fin 2000) (l : Fin 1) :
    k0_pay8 i x w₁ b₁ w₂ b₂ (ix2 r l)
      = Row.score (fun j => x (ix2 r j)) (fun j k => w₁ (ix2 j k)) (fun k => b₁ (ix2 0 k)) (fun k => w₂ (ix2 0 k)) (b₂ (ix2 0 0)) := by
  unfold Row.score
  pointwise [k0_pay8, masked_eq]

section

variable (v : IVec S2000x1 1) (s : FVec Ideal S2000x1 .f32) (b : IVec S2000x1 32) (m d : Vec Ideal S1x128 .f32)

/-- The segment mask of a block whose bounds mask is all ones. -/
theorem mask_apply (hv : ∀ r l, v (ix2 r l) = 1#1) (r : Fin 2000) (g : Fin 128) :
    k0_pay10 v b (ix2 r g) = if b (ix2 r 0) = BitVec.ofNat 32 g.val then 1#1 else 0#1 := by
  pointwise [k0_pay10]
  rw [cmpi_eq, hv]
  split <;> rfl

/-- The greatest score of a segment so far: the old one, or the greatest of the block's own rows. -/
theorem peak_apply (hv : ∀ r l, v (ix2 r l) = 1#1) (g : Fin 128) :
    k0_pay12 v s b m (ix2 0 g)
      = max (m (ix2 0 g)) (Finset.univ.fold max ⊥ fun r : Fin 2000 => if b (ix2 r 0) = BitVec.ofNat 32 g.val then s (ix2 r 0) else ⊥) := by
  pointwise [k0_pay12, k0_pay11, mask_apply v b hv]
  simp only [select_ite, negInf]

/-- The factor that rescales the sums so far. -/
theorem scale_apply (g : Fin 128) :
    k0_pay13 v s b m (ix2 0 g) = scale (m (ix2 0 g)) (k0_pay12 v s b m (ix2 0 g)) := by
  unfold scale
  pointwise [k0_pay13, k0_pay11]
  rw [negInf]

/-- The exponential of a row of the block, in the column of its own segment, and zero in the others. -/
theorem weight_apply (hv : ∀ r l, v (ix2 r l) = 1#1) (r : Fin 2000) (g : Fin 128) :
    k0_pay14 v s b m (ix2 r g)
      = if b (ix2 r 0) = BitVec.ofNat 32 g.val then Ideal.exp (s (ix2 r 0) - k0_pay12 v s b m (ix2 0 g)) else 0 := by
  pointwise [k0_pay14, mask_apply v b hv]
  simp only [select_ite]
  split
  · next h => rw [sum_pick _ h]
  · rfl

/-- The sum of exponentials after the block. -/
theorem mass_apply (g : Fin 128) :
    k0_pay15 v s b m d (ix2 0 g)
      = d (ix2 0 g) * k0_pay13 v s b m (ix2 0 g) + ∑ r : Fin 2000, k0_pay14 v s b m (ix2 r g) := by
  pointwise [k0_pay15]

end

/-- The weighted sum of a feature after the block. -/
theorem pooled_apply (x : Vec Ideal S2000x512 .f32) (sc : FVec Ideal S1x128 .f32) (w : FVec Ideal S2000x128 .f32)
    (wf : Vec Ideal S512x512 .f32) (bf : Vec Ideal S1x512 .f32) (o : Vec Ideal S512x128 .f32) (f : Fin 512) (g : Fin 128) :
    k0_pay1 x sc w wf bf o (ix2 f g)
      = o (ix2 f g) * sc (ix2 0 g)
        + ∑ r : Fin 2000, Row.feature (fun j => x (ix2 r j)) (fun j => wf (ix2 j f)) (bf (ix2 0 f)) * w (ix2 r g) := by
  unfold Row.feature
  pointwise [k0_pay1]

/-- The last point's division, guarded against a sum of zero. -/
theorem divided_apply (d : Vec Ideal S1x128 .f32) (o : Vec Ideal S512x128 .f32) (f : Fin 512) (g : Fin 128) :
    k0_pay2 d o (ix2 f g) = if (0 : EReal) < d (ix2 0 g) then Ideal.div (o (ix2 f g)) (d (ix2 0 g)) else 0 := by
  pointwise [k0_pay2]

/-- The second region's weight of a row within its own segment. -/
theorem alpha_apply (s : Vec Ideal S2000x1 .f32) (b : Vec Ideal S2000x1 .i32) (m d : Vec Ideal S1x128 .f32) (r : Fin 2000) (l : Fin 1)
    (g : Fin 128) (hg : b (ix2 r 0) = BitVec.ofNat 32 g.val) :
    k1_pay1 s b m d (ix2 r l)
      = Ideal.div (Ideal.exp (s (ix2 r 0) - m (ix2 0 g))) (if (0 : EReal) < d (ix2 0 g) then d (ix2 0 g) else 1) := by
  pointwise [k1_pay1]
  rw [Fin.eq_zero l]
  simp only [cmpi_eq, select_ite]
  rw [sum_pick _ hg, sum_pick _ hg]

end Cert.KernelIdeal.Block

end
-- ==== Proof.Cases.lean ====
/-
  What the body leaves in its four output buffers at a grid point, as functions of the eight input blocks and of what the
  buffers held: at the first point, at the points between, and at the last one.
-/
module

public import proofs.«01_k».proof.Proof.Gen.KernelIdeal.Frame
public import Idealize.ShloMosaic.Lib.Pipeline.Value
public import Idealize.ShloMosaic.Lib.Tactic

@[expose] public section

noncomputable section

namespace Cert.KernelIdeal.Cases

open Idealize.ShloMosaic Idealize.ShloMosaic.TcCoe Idealize.SL.Sem
open Cert.KernelIdeal Cert.KernelIdeal.Gen

variable {F : FTy → Type} [FloatOps F]

/-- The eight input blocks of a grid point. -/
structure Inputs (F : FTy → Type) where
  x : Vec F S2000x512 .f32
  ids : Vec F S2000x1 .i32
  w₁ : Vec F S512x256 .f32
  b₁ : Vec F S1x256 .f32
  w₂ : Vec F S1x256 .f32
  b₂ : Vec F S1x1 .f32
  wf : Vec F S512x512 .f32
  bf : Vec F S1x512 .f32

/-- The scores of the block's rows. -/
abbrev scores (i : grid0.Coords) (B : Inputs F) : Vec F S2000x1 .f32 := k0_pay8 i B.x B.w₁ B.b₁ B.w₂ B.b₂

/-- The greatest scores so far, from those before the block. -/
abbrev peaks (i : grid0.Coords) (B : Inputs F) (p : Vec F S1x128 .f32) : Vec F S1x128 .f32 :=
  k0_pay12 (k0_pay6 i) (scores i B) (k0_pay9 B.ids) p

/-- The sums of exponentials so far, from the greatest scores and the sums before the block. -/
abbrev masses (i : grid0.Coords) (B : Inputs F) (p d : Vec F S1x128 .f32) : Vec F S1x128 .f32 :=
  k0_pay15 (k0_pay6 i) (scores i B) (k0_pay9 B.ids) p d

/-- The weighted sums of features so far, from the greatest scores and the sums before the block. -/
abbrev sums (i : grid0.Coords) (B : Inputs F) (p : Vec F S1x128 .f32) (o : Vec F S512x128 .f32) : Vec F S512x128 .f32 :=
  k0_pay1 (k0_pay7 i B.x) (k0_pay13 (k0_pay6 i) (scores i B) (k0_pay9 B.ids) p)
    (k0_pay14 (k0_pay6 i) (scores i B) (k0_pay9 B.ids) p) B.wf B.bf o

/-- The origin, as the offset of a whole block. -/
theorem hz : (![0, 0] : Fin 2 → Nat) = fun _ => 0 := funext fun a => by fin_cases a <;> rfl

variable (c : Dev nD) (i : grid0.Coords)
  (a1 : Memref sig .tc .vmem S2000x512 .f32) (h1 : a1.IsWhole)
  (a2 : Memref sig .tc .vmem S2000x1 .i32) (h2 : a2.IsWhole)
  (a3 : Memref sig .tc .vmem S512x256 .f32) (h3 : a3.IsWhole)
  (a4 : Memref sig .tc .vmem S1x256 .f32) (h4 : a4.IsWhole)
  (a5 : Memref sig .tc .vmem S1x256 .f32) (h5 : a5.IsWhole)
  (a6 : Memref sig .tc .vmem S1x1 .f32) (h6 : a6.IsWhole)
  (a7 : Memref sig .tc .vmem S512x512 .f32) (h7 : a7.IsWhole)
  (a8 : Memref sig .tc .vmem S1x512 .f32) (h8 : a8.IsWhole)
  (a9 : Memref sig .tc .vmem S512x128 .f32) (h9 : a9.IsWhole)
  (a10 : Memref sig .tc .vmem S1x128 .f32) (h10 : a10.IsWhole)
  (a11 : Memref sig .tc .vmem S1x128 .f32) (h11 : a11.IsWhole)
  (a12 : Memref sig .tc .vmem S2000x1 .f32) (h12 : a12.IsWhole)
  (x : Vec F S2000x512 .f32) (ids : Vec F S2000x1 .i32) (w₁ : Vec F S512x256 .f32) (b₁ w₂ : Vec F S1x256 .f32) (b₂ : Vec F S1x1 .f32)
  (wf : Vec F S512x512 .f32) (bf : Vec F S1x512 .f32) (o : Vec F S512x128 .f32) (p d : Vec F S1x128 .f32)

/-- At the first point the body leaves the weighted sums of the blocks read, from zero sums and no score yet. -/
theorem sums_A (hc0 : cond0_0 i) (hc1 : ¬cond0_1 i) :
    out0_A_8 c i a1 h1 a2 h2 a3 h3 a4 h4 a5 h5 a6 h6 a7 h7 a8 h8 a9 h9 a10 h10 a11 h11 a12 h12 hc0 hc1 x ids w₁ b₁ w₂ b₂ wf bf
      = sums i ⟨x, ids, w₁, b₁, w₂, b₂, wf, bf⟩ k0_pay4 k0_pay3 := by
  unfold out0_A_8
  rw [View.read_writes_eq_canon _ _ _ (cover0_A_8 c i a1 h1 a2 h2 a3 h3 a4 h4 a5 h5 a6 h6 a7 h7 a8 h8 a9 h9 a10 h10 a11 h11 a12 h12 hc0 hc1
    x ids w₁ b₁ w₂ b₂ wf bf)]
  unfold kernelRun0_A
  dsimp only
  sl_unfold_words
  rw [View.canon_cons_unit_zero (S := S512x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the first point the body leaves the greatest scores of the blocks read, from zero sums and no score yet. -/
theorem peaks_A (hc0 : cond0_0 i) (hc1 : ¬cond0_1 i) :
    out0_A_9 c i a1 h1 a2 h2 a3 h3 a4 h4 a5 h5 a6 h6 a7 h7 a8 h8 a9 h9 a10 h10 a11 h11 a12 h12 hc0 hc1 x ids w₁ b₁ w₂ b₂ wf bf
      = peaks i ⟨x, ids, w₁, b₁, w₂, b₂, wf, bf⟩ k0_pay4 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1
    x ids w₁ b₁ w₂ b₂ wf bf)]
  unfold kernelRun0_A
  dsimp only
  sl_unfold_words
  rw [View.canon_cons_unit_zero (S := S1x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the first point the body leaves the sums of exponentials of the blocks read, from zero sums and no score yet. -/
theorem masses_A (hc0 : cond0_0 i) (hc1 : ¬cond0_1 i) :
    out0_A_10 c i a1 h1 a2 h2 a3 h3 a4 h4 a5 h5 a6 h6 a7 h7 a8 h8 a9 h9 a10 h10 a11 h11 a12 h12 hc0 hc1 x ids w₁ b₁ w₂ b₂ wf bf
      = masses i ⟨x, ids, w₁, b₁, w₂, b₂, wf, bf⟩ k0_pay4 k0_pay5 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1
    x ids w₁ b₁ w₂ b₂ wf bf)]
  unfold kernelRun0_A
  dsimp only
  sl_unfold_words
  rw [View.canon_cons_unit_zero (S := S1x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the first point the body leaves the scores of the blocks read. -/
theorem scores_A (hc0 : cond0_0 i) (hc1 : ¬cond0_1 i) :
    out0_A_11 c i a1 h1 a2 h2 a3 h3 a4 h4 a5 h5 a6 h6 a7 h7 a8 h8 a9 h9 a10 h10 a11 h11 a12 h12 hc0 hc1 x ids w₁ b₁ w₂ b₂ wf bf
      = scores i ⟨x, ids, w₁, b₁, w₂, b₂, wf, bf⟩ := by
  unfold out0_A_11
  rw [View.read_writes_eq_canon _ _ _ (cover0_A_11 c i a1 h1 a2 h2 a3 h3 a4 h4 a5 h5 a6 h6 a7 h7 a8 h8 a9 h9 a10 h10 a11 h11 a12 h12 hc0 hc1
    x ids w₁ b₁ w₂ b₂ wf bf)]
  unfold kernelRun0_A
  dsimp only
  sl_unfold_words
  rw [View.canon_cons_unit_zero (S := S2000x1) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At a point between the body leaves the weighted sums of the blocks read. -/
theorem sums_B (hc0 : ¬cond0_0 i) (hc1 : ¬cond0_1 i) :
    out0_B_8 c i a1 h1 a2 h2 a3 h3 a4 h4 a5 h5 a6 h6 a7 h7 a8 h8 a9 h9 a10 h10 a11 h11 a12 h12 hc0 hc1 x ids w₁ b₁ w₂ b₂ wf bf o p d
      = sums i ⟨x, ids, w₁, b₁, w₂, b₂, wf, bf⟩ p o := by
  unfold out0_B_8
  rw [View.read_writes_eq_canon _ _ _ (cover0_B_8 c i a1 h1 a2 h2 a3 h3 a4 h4 a5 h5 a6 h6 a7 h7 a8 h8 a9 h9 a10 h10 a11 h11 a12 h12 hc0 hc1
    x ids w₁ b₁ w₂ b₂ wf bf o p d)]
  unfold kernelRun0_B
  dsimp only
  sl_unfold_words
  rw [View.canon_cons_unit_zero (S := S512x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At a point between the body leaves the greatest scores of the blocks read. -/
theorem peaks_B (hc0 : ¬cond0_0 i) (hc1 : ¬cond0_1 i) :
    out0_B_9 c i a1 h1 a2 h2 a3 h3 a4 h4 a5 h5 a6 h6 a7 h7 a8 h8 a9 h9 a10 h10 a11 h11 a12 h12 hc0 hc1 x ids w₁ b₁ w₂ b₂ wf bf o p d
      = peaks i ⟨x, ids, w₁, b₁, w₂, b₂, wf, bf⟩ p := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1
    x ids w₁ b₁ w₂ b₂ wf bf o p d)]
  unfold kernelRun0_B
  dsimp only
  sl_unfold_words
  rw [View.canon_cons_unit_zero (S := S1x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At a point between the body leaves the sums of exponentials of the blocks read. -/
theorem masses_B (hc0 : ¬cond0_0 i) (hc1 : ¬cond0_1 i) :
    out0_B_10 c i a1 h1 a2 h2 a3 h3 a4 h4 a5 h5 a6 h6 a7 h7 a8 h8 a9 h9 a10 h10 a11 h11 a12 h12 hc0 hc1 x ids w₁ b₁ w₂ b₂ wf bf o p d
      = masses i ⟨x, ids, w₁, b₁, w₂, b₂, wf, bf⟩ p d := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1
    x ids w₁ b₁ w₂ b₂ wf bf o p d)]
  unfold kernelRun0_B
  dsimp only
  sl_unfold_words
  rw [View.canon_cons_unit_zero (S := S1x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At a point between the body leaves the scores of the blocks read. -/
theorem scores_B (hc0 : ¬cond0_0 i) (hc1 : ¬cond0_1 i) :
    out0_B_11 c i a1 h1 a2 h2 a3 h3 a4 h4 a5 h5 a6 h6 a7 h7 a8 h8 a9 h9 a10 h10 a11 h11 a12 h12 hc0 hc1 x ids w₁ b₁ w₂ b₂ wf bf o p d
      = scores i ⟨x, ids, w₁, b₁, w₂, b₂, wf, bf⟩ := by
  unfold out0_B_11
  rw [View.read_writes_eq_canon _ _ _ (cover0_B_11 c i a1 h1 a2 h2 a3 h3 a4 h4 a5 h5 a6 h6 a7 h7 a8 h8 a9 h9 a10 h10 a11 h11 a12 h12 hc0 hc1
    x ids w₁ b₁ w₂ b₂ wf bf o p d)]
  unfold kernelRun0_B
  dsimp only
  sl_unfold_words
  rw [View.canon_cons_unit_zero (S := S2000x1) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the last point the body leaves the weighted sums, divided by the sums of exponentials, of the blocks read. -/
theorem sums_C (hc0 : ¬cond0_0 i) (hc1 : cond0_1 i) :
    out0_C_8 c i a1 h1 a2 h2 a3 h3 a4 h4 a5 h5 a6 h6 a7 h7 a8 h8 a9 h9 a10 h10 a11 h11 a12 h12 hc0 hc1 x ids w₁ b₁ w₂ b₂ wf bf o p d
      = k0_pay2 (masses i ⟨x, ids, w₁, b₁, w₂, b₂, wf, bf⟩ p d) (sums i ⟨x, ids, w₁, b₁, w₂, b₂, wf, bf⟩ p o) := by
  unfold out0_C_8
  rw [View.read_writes_eq_canon _ _ _ (cover0_C_8 c i a1 h1 a2 h2 a3 h3 a4 h4 a5 h5 a6 h6 a7 h7 a8 h8 a9 h9 a10 h10 a11 h11 a12 h12 hc0 hc1
    x ids w₁ b₁ w₂ b₂ wf bf o p d)]
  unfold kernelRun0_C
  dsimp only
  sl_unfold_words
  rw [View.canon_cons_unit_zero (S := S512x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the last point the body leaves the greatest scores of the blocks read. -/
theorem peaks_C (hc0 : ¬cond0_0 i) (hc1 : cond0_1 i) :
    out0_C_9 c i a1 h1 a2 h2 a3 h3 a4 h4 a5 h5 a6 h6 a7 h7 a8 h8 a9 h9 a10 h10 a11 h11 a12 h12 hc0 hc1 x ids w₁ b₁ w₂ b₂ wf bf o p d
      = peaks i ⟨x, ids, w₁, b₁, w₂, b₂, wf, bf⟩ p := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1
    x ids w₁ b₁ w₂ b₂ wf bf o p d)]
  unfold kernelRun0_C
  dsimp only
  sl_unfold_words
  rw [View.canon_cons_unit_zero (S := S1x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the last point the body leaves the sums of exponentials of the blocks read. -/
theorem masses_C (hc0 : ¬cond0_0 i) (hc1 : cond0_1 i) :
    out0_C_10 c i a1 h1 a2 h2 a3 h3 a4 h4 a5 h5 a6 h6 a7 h7 a8 h8 a9 h9 a10 h10 a11 h11 a12 h12 hc0 hc1 x ids w₁ b₁ w₂ b₂ wf bf o p d
      = masses i ⟨x, ids, w₁, b₁, w₂, b₂, wf, bf⟩ p d := by
  unfold out0_C_10
  rw [View.read_writes_eq_canon _ _ _ (cover0_C_10 c i a1 h1 a2 h2 a3 h3 a4 h4 a5 h5 a6 h6 a7 h7 a8 h8 a9 h9 a10 h10 a11 h11 a12 h12 hc0 hc1
    x ids w₁ b₁ w₂ b₂ wf bf o p d)]
  unfold kernelRun0_C
  dsimp only
  sl_unfold_words
  rw [View.canon_cons_unit_zero (S := S1x128) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

/-- At the last point the body leaves the scores of the blocks read. -/
theorem scores_C (hc0 : ¬cond0_0 i) (hc1 : cond0_1 i) :
    out0_C_11 c i a1 h1 a2 h2 a3 h3 a4 h4 a5 h5 a6 h6 a7 h7 a8 h8 a9 h9 a10 h10 a11 h11 a12 h12 hc0 hc1 x ids w₁ b₁ w₂ b₂ wf bf o p d
      = scores i ⟨x, ids, w₁, b₁, w₂, b₂, wf, bf⟩ := by
  unfold out0_C_11
  rw [View.read_writes_eq_canon _ _ _ (cover0_C_11 c i a1 h1 a2 h2 a3 h3 a4 h4 a5 h5 a6 h6 a7 h7 a8 h8 a9 h9 a10 h10 a11 h11 a12 h12 hc0 hc1
    x ids w₁ b₁ w₂ b₂ wf bf o p d)]
  unfold kernelRun0_C
  dsimp only
  sl_unfold_words
  rw [View.canon_cons_unit_zero (S := S2000x1) hz]
  simp only [View.readCov_unit_zero (S := S512x128) _ hz, View.readCov_unit_zero (S := S1x128) _ hz, View.readAt_eq_ld,
    h1.read_unread, h2.read_unread, h3.read_unread, h4.read_unread, h5.read_unread, h6.read_unread, h7.read_unread, h8.read_unread, h9.read_unread, h10.read_unread, h11.read_unread, h12.read_unread,
    View.ld_unit_zero (S := S1x1) hz, View.ld_unit_zero (S := S1x128) hz, View.ld_unit_zero (S := S1x256) hz, View.ld_unit_zero (S := S1x512) hz, View.ld_unit_zero (S := S2000x1) hz, View.ld_unit_zero (S := S2000x512) hz, View.ld_unit_zero (S := S512x128) hz, View.ld_unit_zero (S := S512x256) hz, View.ld_unit_zero (S := S512x512) hz]

end Cert.KernelIdeal.Cases

end
-- ==== Proof.Step.lean ====
/-
  One grid point as a step of the segment softmax: if the buffers hold the greatest scores, the sums of exponentials and the
  weighted sums of features of the rows before a block, the body leaves those of the rows up to and including it.
-/
module

public import proofs.«01_k».proof.Proof.Block
public import proofs.«01_k».proof.Proof.Cases
public import proofs.«01_k».proof.Proof.Spec

@[expose] public section

noncomputable section

namespace Cert.KernelIdeal.Step

open Idealize.ShloMosaic
open Cert.KernelIdeal Cert.KernelIdeal.Gen Cert.Softmax Cert.Spec Cert.KernelIdeal.Cases

/-- The blocks `B` are what grid point `t` reads of the arguments `a`. -/
structure Fits (a : Args) (t : Fin 25) (B : Inputs Ideal) : Prop where
  x : ∀ r j, B.x (ix2 r j) = a.x (ix2 (row t r) j)
  ids : ∀ r, B.ids (ix2 r 0) = a.id (row t r)
  w₁ : ∀ j k, B.w₁ (ix2 j k) = a.w₁ (ix2 j k)
  b₁ : ∀ k, B.b₁ (ix2 0 k) = a.b₁ (ix1 k)
  w₂ : ∀ k, B.w₂ (ix2 0 k) = a.w₂ (ix2 k 0)
  b₂ : B.b₂ (ix2 0 0) = a.b₂ (ix1 0)
  wf : ∀ j f, B.wf (ix2 j f) = a.wf (ix2 j f)
  bf : ∀ f, B.bf (ix2 0 f) = a.bf (ix1 f)

/-- The three running arrays hold the softmax's sums and maxima over the first `n` blocks. -/
structure Holds (a : Args) (n : ℕ) (o : Vec Ideal S512x128 .f32) (p d : Vec Ideal S1x128 .f32) : Prop where
  sums : ∀ f g, o (ix2 f g) = gathered a.score (a.feature f) a.id n g
  peaks : ∀ g, p (ix2 0 g) = peak a.score a.id n g
  masses : ∀ g, d (ix2 0 g) = mass a.score a.id n g

variable {a : Args} {t : Fin 25} {B : Inputs Ideal} {o : Vec Ideal S512x128 .f32} {p d : Vec Ideal S1x128 .f32}

/-- What the first point stores before it reads: zero sums, and `⊥` for no score yet. -/
theorem Holds.zero (a : Args) : Holds a 0 (k0_pay3 (F := Ideal)) (k0_pay4 (F := Ideal)) (k0_pay5 (F := Ideal)) where
  sums f g := by
    rw [gathered_zero]
    show Ideal.ofBits .f32 0x00000000#32 = 0
    exact Ideal.ofBits_zero _
  peaks g := by
    rw [peak_zero]
    exact Words.negInf
  masses g := by
    rw [mass_zero]
    show Ideal.ofBits .f32 0x00000000#32 = 0
    exact Ideal.ofBits_zero _

/-- The block's scores are the scores of its rows. -/
theorem scores_apply (h : Fits a t B) (i : grid0.Coords) (r : Fin 2000) (l : Fin 1) :
    scores i B (ix2 r l) = a.score (row t r) := by
  unfold scores
  rw [Block.score_apply, Args.score]
  simp only [h.x, h.w₁, h.b₁, h.w₂, h.b₂]

/-- The ids the body compares are those of the block's rows. -/
theorem ids_apply (h : Fits a t B) (r : Fin 2000) : k0_pay9 (F := Ideal) B.ids (ix2 r 0) = a.id (row t r) := by
  rw [← h.ids]
  unfold k0_pay9
  rw [shapeCast_self]

/-- The greatest scores after the block. -/
theorem peaks_apply (h : Fits a t B) (hp : ∀ g, p (ix2 0 g) = peak a.score a.id t.val g) (i : grid0.Coords) (g : Fin 128) :
    peaks i B p (ix2 0 g) = peak a.score a.id (t.val + 1) g := by
  unfold peaks
  rw [Block.peak_apply _ _ _ _ (Block.valid_apply i), peak_succ, hp]
  simp only [ids_apply h, scores_apply h]

/-- The factor that brings the sums so far to the new greatest scores. -/
theorem scale_apply (h : Fits a t B) (hp : ∀ g, p (ix2 0 g) = peak a.score a.id t.val g) (i : grid0.Coords) (g : Fin 128) :
    k0_pay13 (k0_pay6 i) (scores i B) (k0_pay9 B.ids) p (ix2 0 g)
      = scale (peak a.score a.id t.val g) (peak a.score a.id (t.val + 1) g) := by
  rw [Block.scale_apply, ← peaks_apply h hp i g, ← hp]

/-- The exponentials of the block's rows, in the column of their segment. -/
theorem weight_apply (h : Fits a t B) (hp : ∀ g, p (ix2 0 g) = peak a.score a.id t.val g) (i : grid0.Coords) (r : Fin 2000)
    (g : Fin 128) :
    k0_pay14 (k0_pay6 i) (scores i B) (k0_pay9 B.ids) p (ix2 r g)
      = if Member a.id g (row t r) then Ideal.exp (a.score (row t r) - peak a.score a.id (t.val + 1) g) else 0 := by
  rw [Block.weight_apply _ _ _ _ (Block.valid_apply i), ← peaks_apply h hp i g]
  simp only [ids_apply h, scores_apply h]

/-- One grid point. -/
theorem Holds.step (h : Fits a t B) (H : Holds a t.val o p d) (i : grid0.Coords) :
    Holds a (t.val + 1) (Cases.sums i B p o) (Cases.peaks i B p) (Cases.masses i B p d) where
  sums f g := by
    unfold Cases.sums
    rw [Block.pooled_apply, gathered_succ (a.feature_nonneg f), Block.masked_eq, scale_apply h H.peaks, H.sums]
    congr 1
    refine Finset.sum_congr rfl fun r _ => ?_
    rw [weight_apply h H.peaks, Args.feature]
    simp only [h.x, h.wf, h.bf]
  peaks := peaks_apply h H.peaks i
  masses g := by
    unfold Cases.masses
    rw [Block.mass_apply, mass_succ, scale_apply h H.peaks, H.masses]
    congr 1
    exact Finset.sum_congr rfl fun r _ => weight_apply h H.peaks i r g

/-- After the last point's division: the embedding, transposed. -/
theorem Holds.divided (H : Holds a 25 o p d) (f : Fin 512) (g : Fin 128) :
    k0_pay2 d o (ix2 f g) = a.embedding g f := by
  rw [Block.divided_apply, H.sums, H.masses, pooled_eq (a.feature_nonneg f)]
  rfl

end Cert.KernelIdeal.Step

end
-- ==== Proof.Fetch.lean ====
/-
  What the input blocks of a grid point hold, at an index: rows 2000 t … 2000 t + 1999 of the array of rows and of the column of
  ids, and the whole of each weight and bias array.
-/
module

public import proofs.«01_k».proof.Proof.Step
public import Idealize.ShloMosaic.Lib.Pipeline.ValueKit

@[expose] public section

noncomputable section

namespace Cert.KernelIdeal.Fetch

open Idealize.ShloMosaic Idealize.ShloMosaic.TcCoe Idealize.SL.Sem
open Cert.KernelIdeal Cert.KernelIdeal.Gen Cert.Softmax Cert.Spec Cert.KernelIdeal.Cases Cert.KernelIdeal.Step

variable (V : (c : Dev nD) → (b : Ref sig .tc) → Buf (Elt Ideal) ((c : Thread nD τ).loc b))

/-- The arrays the first region reads hold the arguments `a`, ids and biases as columns and rows. -/
structure Entered (c : Dev nD) (a : Args) : Prop where
  x : ∀ n j, (V c main_arg0 : Vec Ideal S50000x512 .f32) (ix2 n j) = a.x (ix2 n j)
  ids : ∀ n, (V c main_v0 : Vec Ideal S50000x1 .i32) (ix2 n 0) = a.id n
  w₁ : ∀ j k, (V c main_arg2 : Vec Ideal S512x256 .f32) (ix2 j k) = a.w₁ (ix2 j k)
  b₁ : ∀ k, (V c main_v1 : Vec Ideal S1x256 .f32) (ix2 0 k) = a.b₁ (ix1 k)
  w₂ : ∀ k, (V c main_v2 : Vec Ideal S1x256 .f32) (ix2 0 k) = a.w₂ (ix2 k 0)
  b₂ : (V c main_v3 : Vec Ideal S1x1 .f32) (ix2 0 0) = a.b₂ (ix1 0)
  wf : ∀ j f, (V c main_arg6 : Vec Ideal S512x512 .f32) (ix2 j f) = a.wf (ix2 j f)
  bf : ∀ f, (V c main_v4 : Vec Ideal S1x512 .f32) (ix2 0 f) = a.bf (ix1 f)

/-- A grid point of the first region as a block number. -/
def point (t : Fin cfg0.N) : Fin 25 := t.cast N_0

/-- The input blocks of a grid point. -/
def inputs (c : Dev nD) (t : Fin cfg0.N) : Inputs Ideal :=
  ⟨iblk0 V c 0 t, iblk0 V c 1 t, iblk0 V c 2 t, iblk0 V c 3 t, iblk0 V c 4 t, iblk0 V c 5 t, iblk0 V c 6 t, iblk0 V c 7 t⟩

/-- Which block of the rows a grid point reads. -/
theorem idx0 : ∀ t : Fin cfg0.N, win0_0.index t = ![t.val, 0] := (by decide +kernel : ∀ t : Fin grid0.N, _)
/-- Which block of the ids a grid point reads. -/
theorem idx1 : ∀ t : Fin cfg0.N, win0_1.index t = ![t.val, 0] := (by decide +kernel : ∀ t : Fin grid0.N, _)
/-- Which block of the gate's first weights a grid point reads. -/
theorem idx2 : ∀ t : Fin cfg0.N, win0_2.index t = ![0, 0] := (by decide +kernel : ∀ t : Fin grid0.N, _)
/-- Which block of the gate's first biases a grid point reads. -/
theorem idx3 : ∀ t : Fin cfg0.N, win0_3.index t = ![0, 0] := (by decide +kernel : ∀ t : Fin grid0.N, _)
/-- Which block of the gate's second weights a grid point reads. -/
theorem idx4 : ∀ t : Fin cfg0.N, win0_4.index t = ![0, 0] := (by decide +kernel : ∀ t : Fin grid0.N, _)
/-- Which block of the gate's second bias a grid point reads. -/
theorem idx5 : ∀ t : Fin cfg0.N, win0_5.index t = ![0, 0] := (by decide +kernel : ∀ t : Fin grid0.N, _)
/-- Which block of the features' weights a grid point reads. -/
theorem idx6 : ∀ t : Fin cfg0.N, win0_6.index t = ![0, 0] := (by decide +kernel : ∀ t : Fin grid0.N, _)
/-- Which block of the features' biases a grid point reads. -/
theorem idx7 : ∀ t : Fin cfg0.N, win0_7.index t = ![0, 0] := (by decide +kernel : ∀ t : Fin grid0.N, _)

variable {V} {c : Dev nD} {a : Args}

/-- The input blocks of point `t` are block `t` of the arguments. -/
theorem fits (h : Entered V c a) (t : Fin cfg0.N) : Fits a (point t) (inputs V c t) where
  x r j := by
    rw [← h.x]
    show iblk0 V c 0 t (ix2 r j) = _
    blk_ext [iblk0, idx0 t, row]
    show t.val * 2000 + r.val = 2000 * t.val + r.val
    omega
  ids r := by
    rw [← h.ids]
    show iblk0 V c 1 t (ix2 r 0) = _
    blk_ext [iblk0, idx1 t, row]
    show t.val * 2000 + r.val = 2000 * t.val + r.val
    omega
  w₁ j k := by
    rw [← h.w₁]
    show iblk0 V c 2 t (ix2 j k) = _
    blk_ext [iblk0, idx2 t]
  b₁ k := by
    rw [← h.b₁]
    show iblk0 V c 3 t (ix2 0 k) = _
    blk_ext [iblk0, idx3 t]
  w₂ k := by
    rw [← h.w₂]
    show iblk0 V c 4 t (ix2 0 k) = _
    blk_ext [iblk0, idx4 t]
  b₂ := by
    rw [← h.b₂]
    show iblk0 V c 5 t (ix2 0 0) = _
    blk_ext [iblk0, idx5 t]
  wf j f := by
    rw [← h.wf]
    show iblk0 V c 6 t (ix2 j f) = _
    blk_ext [iblk0, idx6 t]
  bf f := by
    rw [← h.bf]
    show iblk0 V c 7 t (ix2 0 f) = _
    blk_ext [iblk0, idx7 t]

end Cert.KernelIdeal.Fetch

end
-- ==== Proof.Running.lean ====
/-
  What the first region's buffers hold after each grid point: the segment softmax's running maxima and sums over the blocks
  read so far, by induction on the point; after the last one, the embedding.
-/
module

public import proofs.«01_k».proof.Proof.Fetch

@[expose] public section

noncomputable section

namespace Cert.KernelIdeal.Running

open Idealize.ShloMosaic Idealize.ShloMosaic.TcCoe Idealize.SL.Sem
open Cert.KernelIdeal Cert.KernelIdeal.Gen Cert.Softmax Cert.Spec Cert.KernelIdeal.Step Cert.KernelIdeal.Fetch

variable (V : (c : Dev nD) → (b : Ref sig .tc) → Buf (Elt Ideal) ((c : Thread nD τ).loc b)) (c : Dev nD)

/-- What the first point leaves. -/
theorem outs_first (t : Fin cfg0.N) (h0 : t.val % 25 = 0) (h1 : ¬t.val % 25 = 24) :
    outsAt0 V c t.val t.isLt
      = (Cases.sums (grid0.coords t) (inputs V c t) (k0_pay4 (F := Ideal)) (k0_pay3 (F := Ideal)), Cases.peaks (grid0.coords t) (inputs V c t) (k0_pay4 (F := Ideal)),
        Cases.masses (grid0.coords t) (inputs V c t) (k0_pay4 (F := Ideal)) (k0_pay5 (F := Ideal)), Cases.scores (grid0.coords t) (inputs V c t)) :=
  (outsAt0_A V c t h0 h1).trans (by rw [Cases.sums_A, Cases.peaks_A, Cases.masses_A, Cases.scores_A]; rfl)

/-- What a point between leaves, from what the point before left. -/
theorem outs_between (t : Fin cfg0.N) (h0 : ¬t.val % 25 = 0) (h1 : ¬t.val % 25 = 24)
    (P : Vec Ideal S512x128 .f32 × Vec Ideal S1x128 .f32 × Vec Ideal S1x128 .f32 × Vec Ideal S2000x1 .f32)
    (hP : outsAt0 V c (t.val - 1) (Nat.lt_of_le_of_lt (Nat.sub_le _ _) t.isLt) = P) :
    outsAt0 V c t.val t.isLt
      = (Cases.sums (grid0.coords t) (inputs V c t) P.2.1 P.1, Cases.peaks (grid0.coords t) (inputs V c t) P.2.1,
        Cases.masses (grid0.coords t) (inputs V c t) P.2.1 P.2.2.1, Cases.scores (grid0.coords t) (inputs V c t)) :=
  (outsAt0_B V c t h0 h1).trans (by rw [Cases.sums_B, Cases.peaks_B, Cases.masses_B, Cases.scores_B, hP]; rfl)

/-- What the last point leaves, from what the point before left. -/
theorem outs_last (t : Fin cfg0.N) (h0 : ¬t.val % 25 = 0) (h1 : t.val % 25 = 24)
    (P : Vec Ideal S512x128 .f32 × Vec Ideal S1x128 .f32 × Vec Ideal S1x128 .f32 × Vec Ideal S2000x1 .f32)
    (hP : outsAt0 V c (t.val - 1) (Nat.lt_of_le_of_lt (Nat.sub_le _ _) t.isLt) = P) :
    outsAt0 V c t.val t.isLt
      = (k0_pay2 (Cases.masses (grid0.coords t) (inputs V c t) P.2.1 P.2.2.1) (Cases.sums (grid0.coords t) (inputs V c t) P.2.1 P.1),
        Cases.peaks (grid0.coords t) (inputs V c t) P.2.1,
        Cases.masses (grid0.coords t) (inputs V c t) P.2.1 P.2.2.1, Cases.scores (grid0.coords t) (inputs V c t)) :=
  (outsAt0_C V c t h0 h1).trans (by rw [Cases.sums_C, Cases.peaks_C, Cases.masses_C, Cases.scores_C, hP]; rfl)

variable {V} {c} {a : Args}

/-- Before the last point the buffers hold the softmax of the blocks read. -/
theorem holds (h : Entered V c a) : ∀ (n : ℕ) (hn : n < cfg0.N), n < 24 →
    Holds a (n + 1) (outsAt0 V c n hn).1 (outsAt0 V c n hn).2.1 (outsAt0 V c n hn).2.2.1
  | 0, hn, _ => by
    rw [outs_first V c ⟨0, hn⟩ rfl (by show ¬0 % 25 = 24; decide)]
    exact Holds.step (fits h ⟨0, hn⟩) (Holds.zero a) _
  | n + 1, hn, hlt => by
    have ih := holds h n (Nat.lt_of_succ_lt hn) (by omega)
    rw [outs_between V c ⟨n + 1, hn⟩ (by show ¬(n + 1) % 25 = 0; omega) (by show ¬(n + 1) % 25 = 24; omega) _ rfl]
    exact Holds.step (fits h ⟨n + 1, hn⟩) ih _

/-- After the last point: the embedding, transposed; the segments' greatest scores; their sums of exponentials. -/
theorem final (h : Entered V c a) (t : Fin cfg0.N) (ht : t.val % 25 = 24) :
    (∀ f g, (outsAt0 V c t.val t.isLt).1 (ix2 f g) = a.embedding g f)
      ∧ (∀ g, (outsAt0 V c t.val t.isLt).2.1 (ix2 0 g) = peak a.score a.id 25 g)
      ∧ (∀ g, (outsAt0 V c t.val t.isLt).2.2.1 (ix2 0 g) = mass a.score a.id 25 g) := by
  have hN : t.val < 25 := lt_of_lt_of_eq t.isLt N_0
  have ht' : t.val = 24 := by omega
  have ih := holds h (t.val - 1) (Nat.lt_of_le_of_lt (Nat.sub_le _ _) t.isLt) (by omega)
  rw [show t.val - 1 + 1 = (point t).val by show _ = t.val; omega] at ih
  have H := Holds.step (fits h t) ih (grid0.coords t)
  rw [show (point t).val + 1 = 25 by show t.val + 1 = 25; omega] at H
  rw [outs_last V c t (by omega) ht _ rfl]
  exact ⟨H.divided, H.peaks, H.masses⟩

/-- After every point: the scores of the block's rows. -/
theorem scores (h : Entered V c a) (t : Fin cfg0.N) (r : Fin 2000) (l : Fin 1) :
    (outsAt0 V c t.val t.isLt).2.2.2 (ix2 r l) = a.score (row (point t) r) := by
  have e : (outsAt0 V c t.val t.isLt).2.2.2 = Cases.scores (grid0.coords t) (inputs V c t) := by
    by_cases h0 : t.val % 25 = 0
    · rw [outs_first V c t h0 (by omega)]
    · by_cases h1 : t.val % 25 = 24
      · rw [outs_last V c t h0 h1 _ rfl]
      · rw [outs_between V c t h0 h1 _ rfl]
  rw [e]
  exact scores_apply (fits h t) _ r l

end Cert.KernelIdeal.Running

end
-- ==== Proof.Arrays.lean ====
/-
  What the arrays hold when the regions are left: the first region's four results — the embedding, transposed, the greatest scores,
  the sums of exponentials and the scores — and the second region's column of softmax weights.
-/
module

public import proofs.«01_k».proof.Proof.Running

@[expose] public section

noncomputable section

namespace Cert.KernelIdeal.Arrays

open Idealize.ShloMosaic Idealize.ShloMosaic.TcCoe Idealize.SL.Sem
open Cert.KernelIdeal Cert.KernelIdeal.Gen Cert.Softmax Cert.Spec Cert.KernelIdeal.Step Cert.KernelIdeal.Fetch

variable {V : (c : Dev nD) → (b : Ref sig .tc) → Buf (Elt Ideal) ((c : Thread nD τ).loc b)} {c : Dev nD} {a : Args}

/-- Which block of the first result a grid point of the first region writes. -/
theorem idx8 : ∀ t : Fin cfg0.N, win0_8.index t = ![0, 0] := (by decide +kernel : ∀ t : Fin grid0.N, _)
/-- Which block of the greatest scores a grid point of the first region writes. -/
theorem idx9 : ∀ t : Fin cfg0.N, win0_9.index t = ![0, 0] := (by decide +kernel : ∀ t : Fin grid0.N, _)
/-- Which block of the sums of exponentials a grid point of the first region writes. -/
theorem idx10 : ∀ t : Fin cfg0.N, win0_10.index t = ![0, 0] := (by decide +kernel : ∀ t : Fin grid0.N, _)
/-- Which block of the scores a grid point of the first region writes. -/
theorem idx11 : ∀ t : Fin cfg0.N, win0_11.index t = ![t.val, 0] := (by decide +kernel : ∀ t : Fin grid0.N, _)

/-- The first result array: the embedding, transposed. -/
theorem sums_eq (h : Entered V c a) :
    (dat0 V c).arrAt 8 cfg0.N = fun i : S512x128.Idx => a.embedding (i 1) (i 0) := by
  refine (dat0 V c).arrAt_eq_of_covers 8 _ (by decide +kernel) fun t hf y => ?_
  have H := (Running.final h t ((flush0_8 t).mp hf)).1
  blk_simp
  rw [after0_8]
  obtain ⟨f, g, rfl⟩ : ∃ (f : Fin 512) (g : Fin 128), y = ix2 f g := ⟨y 0, y 1, eq_ix2 y⟩
  refine (H f g).trans (congrArg₂ a.embedding ?_ ?_) <;> (apply Fin.ext; blk_simp [idx8 t])

/-- The greatest score of every segment. -/
theorem peaks_eq (h : Entered V c a) :
    (dat0 V c).arrAt 9 cfg0.N = fun i : S1x128.Idx => peak a.score a.id 25 (i 1) := by
  refine (dat0 V c).arrAt_eq_of_covers 9 _ (by decide +kernel) fun t hf y => ?_
  have H := (Running.final h t ((flush0_9 t).mp hf)).2.1
  blk_simp
  rw [after0_9]
  obtain ⟨l, g, rfl⟩ : ∃ (l : Fin 1) (g : Fin 128), y = ix2 l g := ⟨y 0, y 1, eq_ix2 y⟩
  obtain rfl : l = 0 := Subsingleton.elim _ _
  refine (H g).trans (congrArg (peak a.score a.id 25) ?_)
  apply Fin.ext
  blk_simp [idx9 t]

/-- The sum of exponentials of every segment. -/
theorem masses_eq (h : Entered V c a) :
    (dat0 V c).arrAt 10 cfg0.N = fun i : S1x128.Idx => mass a.score a.id 25 (i 1) := by
  refine (dat0 V c).arrAt_eq_of_covers 10 _ (by decide +kernel) fun t hf y => ?_
  have H := (Running.final h t ((flush0_10 t).mp hf)).2.2
  blk_simp
  rw [after0_10]
  obtain ⟨l, g, rfl⟩ : ∃ (l : Fin 1) (g : Fin 128), y = ix2 l g := ⟨y 0, y 1, eq_ix2 y⟩
  obtain rfl : l = 0 := Subsingleton.elim _ _
  refine (H g).trans (congrArg (mass a.score a.id 25) ?_)
  apply Fin.ext
  blk_simp [idx10 t]

/-- The scores. -/
theorem scores_eq (h : Entered V c a) :
    (dat0 V c).arrAt 11 cfg0.N = fun i : S50000x1.Idx => a.score (i 0) := by
  refine (dat0 V c).arrAt_eq_of_covers 11 _ (by decide +kernel) fun t hf y => ?_
  have H := Running.scores h t
  blk_simp
  rw [after0_11]
  obtain ⟨r, l, rfl⟩ : ∃ (r : Fin 2000) (l : Fin 1), y = ix2 r l := ⟨y 0, y 1, eq_ix2 y⟩
  refine (H r l).trans (congrArg a.score ?_)
  apply Fin.ext
  blk_simp [idx11 t]
  show 2000 * t.val + r.val = t.val * 2000 + r.val
  omega

/-- The arrays the second region reads hold the scores, the ids, the greatest scores and the sums of exponentials. -/
structure Weighed (V : (c : Dev nD) → (b : Ref sig .tc) → Buf (Elt Ideal) ((c : Thread nD τ).loc b)) (c : Dev nD) (a : Args) :
    Prop where
  scores : ∀ n, (V c main_v5_3 : Vec Ideal S50000x1 .f32) (ix2 n 0) = a.score n
  ids : ∀ n, (V c main_v0 : Vec Ideal S50000x1 .i32) (ix2 n 0) = a.id n
  peaks : ∀ g, (V c main_v5_1 : Vec Ideal S1x128 .f32) (ix2 0 g) = peak a.score a.id 25 g
  masses : ∀ g, (V c main_v5_2 : Vec Ideal S1x128 .f32) (ix2 0 g) = mass a.score a.id 25 g

/-- Which block a grid point of the second region reads of the scores. -/
theorem idx1_0 : ∀ t : Fin cfg1.N, win1_0.index t = ![t.val, 0] := (by decide +kernel : ∀ t : Fin grid1.N, _)
/-- Which block a grid point of the second region reads of the ids. -/
theorem idx1_1 : ∀ t : Fin cfg1.N, win1_1.index t = ![t.val, 0] := (by decide +kernel : ∀ t : Fin grid1.N, _)
/-- Which block a grid point of the second region reads of the greatest scores. -/
theorem idx1_2 : ∀ t : Fin cfg1.N, win1_2.index t = ![0, 0] := (by decide +kernel : ∀ t : Fin grid1.N, _)
/-- Which block a grid point of the second region reads of the sums of exponentials. -/
theorem idx1_3 : ∀ t : Fin cfg1.N, win1_3.index t = ![0, 0] := (by decide +kernel : ∀ t : Fin grid1.N, _)
/-- Which block a grid point of the second region writes of the softmax weights. -/
theorem idx1_4 : ∀ t : Fin cfg1.N, win1_4.index t = ![t.val, 0] := (by decide +kernel : ∀ t : Fin grid1.N, _)

/-- What the second region's body leaves: its one payload, of the four blocks read. -/
theorem out_eq (s : Vec Ideal S2000x1 .f32) (b : Vec Ideal S2000x1 .i32) (p d : Vec Ideal S1x128 .f32) :
    out1_4 s b p d = k1_pay1 s b p d := by
  unfold out1_4
  rw [View.canon_unit_zero Cases.hz]
  simp only [r1_0, r1_1, View.ld_unit_zero (S := S2000x1) Cases.hz, View.ld_unit_zero (S := S1x128) Cases.hz]

/-- A grid point of the second region as a block number. -/
def point (t : Fin cfg1.N) : Fin 25 := t.cast N_1

/-- The weights of the rows of a block. -/
theorem weights_apply (h : Weighed V c a) (t : Fin cfg1.N) (r : Fin 2000) (l : Fin 1) (g : Fin 128)
    (hg : a.id (row (point t) r) = BitVec.ofNat 32 g.val) :
    k1_pay1 (F := Ideal) (iblk1 V c 0 t) (iblk1 V c 1 t) (iblk1 V c 2 t) (iblk1 V c 3 t) (ix2 r l)
      = a.alpha (row (point t) r) g := by
  have es : (iblk1 V c 0 t : Vec Ideal S2000x1 .f32) (ix2 r 0) = a.score (row (point t) r) := by
    rw [← h.scores]
    blk_ext [iblk1, idx1_0 t, row]
    show t.val * 2000 + r.val = 2000 * t.val + r.val
    omega
  have eb : (iblk1 V c 1 t : Vec Ideal S2000x1 .i32) (ix2 r 0) = a.id (row (point t) r) := by
    rw [← h.ids]
    blk_ext [iblk1, idx1_1 t, row]
    show t.val * 2000 + r.val = 2000 * t.val + r.val
    omega
  have ep : (iblk1 V c 2 t : Vec Ideal S1x128 .f32) (ix2 0 g) = peak a.score a.id 25 g := by
    rw [← h.peaks]
    blk_ext [iblk1, idx1_2 t]
  have ed : (iblk1 V c 3 t : Vec Ideal S1x128 .f32) (ix2 0 g) = mass a.score a.id 25 g := by
    rw [← h.masses]
    blk_ext [iblk1, idx1_3 t]
  refine (Block.alpha_apply _ _ _ _ r l g (eb.trans hg)).trans ?_
  rw [es, ep, ed]
  rfl

/-- The second region's result: every row's softmax weight within its own segment. -/
theorem weights_eq (h : Weighed V c a) (n : Fin 50000) (g : Fin 128)
    (hg : a.id n = BitVec.ofNat 32 g.val) :
    ((dat1 V c).arrAt 4 cfg1.N : Vec Ideal S50000x1 .f32) (ix2 n 0) = a.alpha n g := by
  refine ((dat1 V c).arrAt_forall_of_covers 4
    (fun (i : S50000x1.Idx) v => ∀ g : Fin 128, a.id (i 0) = BitVec.ofNat 32 g.val → v = a.alpha (i 0) g)
    (by decide +kernel) (fun t hf y => ?_) (ix2 n 0)) g hg
  blk_simp
  rw [after1_4, out_eq]
  obtain ⟨r, l, rfl⟩ : ∃ (r : Fin 2000) (l : Fin 1), y = ix2 r l := ⟨y 0, y 1, eq_ix2 y⟩
  have e : (((win1_4.blk t).view.emb (ix2 r l) 0 : Fin 50000)) = row (point t) r := by
    apply Fin.ext
    blk_simp [idx1_4 t]
    show t.val * 2000 + r.val = 2000 * t.val + r.val
    omega
  intro g hg
  rw [e] at hg ⊢
  exact weights_apply h t r l g hg

end Cert.KernelIdeal.Arrays

end
-- ==== Proof.Launch.lean ====
/-
  The kernel's whole run, read: every buffer that outlives the regions ends at the contents the fold through the program gives it.
-/
module

public import proofs.«01_k».proof.Proof.Gen.KernelIdeal.Frame

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends, and leaves each lasting buffer at `W4`: the launch contents taken through the reshapes, the two
    regions and the last transpose and reshape. -/
theorem contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The arguments outlive the regions. -/
theorem lasting : ∀ b ∈ argRefs, ¬ (Proc.devRef .tc b : DevRef τ sig).isScoped := ListAll.forall_mem_of_all_decide (by decide +kernel)

/-- The two results and the arguments after a run. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v8) = W4 m ρ c (Proc.devRef .tc main_v8)
      ∧ ∀ b ∈ argRefs, r.2.mem ((c.tc : Thread nD τ).loc b) = m ((c.tc : Thread nD τ).loc b)) :=
  (θ_run defs _ _).mono (fun _ h c => ⟨h c _ (mem_uc main_v7 (by decide)), h c _ (mem_uc main_v8 (by decide)), fun b hb =>
    (h c _ (mem_uc b (lasting b hb))).trans (W4_args m ρ c b hb)⟩) (contents m ρ)

end Cert.KernelIdeal.Launch

end
-- ==== Proof.End.lean ====
/-
  The kernel's two results at an index: the segments' embeddings and the rows' softmax weights, of the arguments in memory.
-/
module

public import proofs.«01_k».proof.Proof.Arrays
public import proofs.«01_k».proof.Proof.Launch
public import Idealize.ShloMosaic.Lib.StableHlo.Run
public import Idealize.ShloMosaic.Lib.Claim

@[expose] public section

noncomputable section

namespace Cert.KernelIdeal.End

open Idealize.ShloMosaic Idealize.ShloMosaic.TcCoe Idealize.SL.Sem
open Cert.KernelIdeal Cert.KernelIdeal.Gen Cert.Softmax Cert.Spec Cert.KernelIdeal.Fetch Cert.KernelIdeal.Arrays

variable (m : (ℓ : Loc nD τ sig) → Buf (Elt Ideal) ℓ) (ρ : Dev nD → PrngReg) (c : Dev nD)

/-- The arguments in memory. -/
def args : Args where
  x := m ((c : Thread nD τ).loc main_arg0)
  ids := m ((c : Thread nD τ).loc main_arg1)
  w₁ := m ((c : Thread nD τ).loc main_arg2)
  b₁ := m ((c : Thread nD τ).loc main_arg3)
  w₂ := m ((c : Thread nD τ).loc main_arg4)
  b₂ := m ((c : Thread nD τ).loc main_arg5)
  wf := m ((c : Thread nD τ).loc main_arg6)
  bf := m ((c : Thread nD τ).loc main_arg7)

/-- The column of ids. -/
theorem ids_eq : (W1 m ρ c (Proc.devRef .tc main_v0) : Vec Ideal S50000x1 .i32)
    = shapeCast S50000x1 (m ((c : Thread nD τ).loc main_arg1) : Vec Ideal S50000 .i32) shapeCasts_S50000_S50000x1 := by
  unfold W1
  after_results
  rfl

/-- The row of the gate's first biases. -/
theorem b₁_eq : (W1 m ρ c (Proc.devRef .tc main_v1) : Vec Ideal S1x256 .f32)
    = shapeCast S1x256 (m ((c : Thread nD τ).loc main_arg3) : Vec Ideal S256 .f32) shapeCasts_S256_S1x256 := by
  unfold W1
  after_results
  rfl

/-- The row of the gate's second weights. -/
theorem w₂_eq : (W1 m ρ c (Proc.devRef .tc main_v2) : Vec Ideal S1x256 .f32)
    = shapeCast S1x256 (m ((c : Thread nD τ).loc main_arg4) : Vec Ideal S256x1 .f32) shapeCasts_S256x1_S1x256 := by
  unfold W1
  after_results
  rfl

/-- The gate's second bias. -/
theorem b₂_eq : (W1 m ρ c (Proc.devRef .tc main_v3) : Vec Ideal S1x1 .f32)
    = shapeCast S1x1 (m ((c : Thread nD τ).loc main_arg5) : Vec Ideal S1 .f32) shapeCasts_S1_S1x1 := by
  unfold W1
  after_results
  rfl

/-- The row of the features' biases. -/
theorem bf_eq : (W1 m ρ c (Proc.devRef .tc main_v4) : Vec Ideal S1x512 .f32)
    = shapeCast S1x512 (m ((c : Thread nD τ).loc main_arg7) : Vec Ideal S512 .f32) shapeCasts_S512_S1x512 := by
  unfold W1
  after_results
  rfl

/-- The arrays the first region reads hold the arguments. -/
theorem entered : Entered (V1 m ρ) c (args m c) where
  x n j := congrFun (W1_args m ρ c main_arg0 (by decide)) (ix2 n j)
  ids n := by
    refine (congrFun (ids_eq m ρ c) (ix2 n 0)).trans ?_
    pointwise
    rfl
  w₁ j k := congrFun (W1_args m ρ c main_arg2 (by decide)) (ix2 j k)
  b₁ k := by
    refine (congrFun (b₁_eq m ρ c) (ix2 0 k)).trans ?_
    pointwise
    rfl
  w₂ k := by
    refine (congrFun (w₂_eq m ρ c) (ix2 0 k)).trans ?_
    pointwise
    rfl
  b₂ := by
    refine (congrFun (b₂_eq m ρ c) (ix2 0 0)).trans ?_
    pointwise
    rfl
  wf j f := congrFun (W1_args m ρ c main_arg6 (by decide)) (ix2 j f)
  bf f := by
    refine (congrFun (bf_eq m ρ c) (ix2 0 f)).trans ?_
    pointwise
    rfl

/-- The arrays the second region reads hold what the first left, and the ids. -/
theorem weighed : Weighed (V2 m ρ) c (args m c) where
  scores n := congrFun ((W2_arr m ρ c 11).trans (scores_eq (entered m ρ c))) (ix2 n 0)
  ids n := (congrFun (W2_of m ρ c main_v0 (by decide +kernel)) (ix2 n 0)).trans ((entered m ρ c).ids n)
  peaks g := congrFun ((W2_arr m ρ c 9).trans (peaks_eq (entered m ρ c))) (ix2 0 g)
  masses g := congrFun ((W2_arr m ρ c 10).trans (masses_eq (entered m ρ c))) (ix2 0 g)

/-- The first result is the transpose of the first region's sums. -/
theorem v7_eq : (W4 m ρ c (Proc.devRef .tc main_v7) : Vec Ideal S128x512 .f32)
    = transpose S128x512 [1, 0] (W3 m ρ c (Proc.devRef .tc main_v5_0) : Vec Ideal S512x128 .f32)
        transposes_S512x128_S128x512_1_0 := by
  unfold W4
  after_results

/-- The second result is the second region's column, as a vector. -/
theorem v8_eq : (W4 m ρ c (Proc.devRef .tc main_v8) : Vec Ideal S50000 .f32)
    = shapeCast S50000 (W3 m ρ c (Proc.devRef .tc main_v6) : Vec Ideal S50000x1 .f32) shapeCasts_S50000x1_S50000 := by
  unfold W4
  after_results
  rfl

/-- The first result: feature `f` of segment `g`. -/
theorem embedding_apply (g : Fin 128) (f : Fin 512) :
    (W4 m ρ c (Proc.devRef .tc main_v7) : Vec Ideal S128x512 .f32) (ix2 g f) = (args m c).embedding g f := by
  have e : (W3 m ρ c (Proc.devRef .tc main_v5_0) : Vec Ideal S512x128 .f32)
      = fun i : S512x128.Idx => (args m c).embedding (i 1) (i 0) :=
    (W3_of m ρ c main_v5_0 (by decide +kernel)).trans ((W2_arr m ρ c 8).trans (sums_eq (entered m ρ c)))
  rw [v7_eq, e]
  pointwise

/-- The second result: the softmax weight of row `n` within its segment `g`. -/
theorem alpha_apply (n : Fin 50000) (g : Fin 128)
    (hg : (args m c).id n = BitVec.ofNat 32 g.val) :
    (W4 m ρ c (Proc.devRef .tc main_v8) : Vec Ideal S50000 .f32) (ix1 n) = (args m c).alpha n g := by
  have e : (W3 m ρ c (Proc.devRef .tc main_v6) : Vec Ideal S50000x1 .f32) (ix2 n 0) = (args m c).alpha n g :=
    (congrFun (W3_arr m ρ c 4) (ix2 n 0)).trans (weights_eq (weighed m ρ c) n g hg)
  rw [v8_eq, ← e]
  pointwise

end Cert.KernelIdeal.End

end
-- ==== Proof.Scores.lean ====
/-
  The precondition read on the arguments: ids between 0 and 127, and in every segment with a row a greatest score above minus
  infinity.
-/
module

public import proofs.«01_k».proof.Defs
public import proofs.«01_k».proof.Proof.Reference
public import proofs.«01_k».proof.Proof.End

@[expose] public section

noncomputable section

namespace Cert.Scores

open Idealize.ShloMosaic Idealize.ShloMosaic.TcCoe
open Cert.Pre_every_graph_scores

/-- The precondition's shapes fit as the reference's do. -/
instance facts : Cert.Pre_every_graph_scores.Facts where
  bcast_S256_S1x256_1 := Cert.ReferenceIdeal.Gen.bcast_S256_S1x256_1
  bcast_S1x256_S50000x256_0_1 := Cert.ReferenceIdeal.Gen.bcast_S1x256_S50000x256_0_1
  bcast_S_S50000x256 := Cert.ReferenceIdeal.Gen.bcast_S_S50000x256
  bcast_S1_S1x1_1 := Cert.ReferenceIdeal.Gen.bcast_S1_S1x1_1
  bcast_S1x1_S50000x1_0_1 := Cert.ReferenceIdeal.Gen.bcast_S1x1_S50000x1_0_1
  shapeCasts_S50000x1_S50000 := Cert.ReferenceIdeal.Gen.shapeCasts_S50000x1_S50000
  bcast_S50000_S50000x1_0 := Cert.ReferenceIdeal.Gen.bcast_S50000_S50000x1_0
  bcast_S128_S1x128_1 := Cert.ReferenceIdeal.Gen.bcast_S128_S1x128_1
  bcast_S50000x1_S50000x128_0_1 := Cert.ReferenceIdeal.Gen.bcast_S50000x1_S50000x128_0_1
  bcast_S1x128_S50000x128_0_1 := Cert.ReferenceIdeal.Gen.bcast_S1x128_S50000x128_0_1
  bcast_S_S50000x128 := Cert.ReferenceIdeal.Gen.bcast_S_S50000x128
  reducesTo_S50000x128_S128_d0 := Cert.ReferenceIdeal.Gen.reducesTo_S50000x128_S128_d0
  h_S_ := Cert.ReferenceIdeal.Gen.h_S_
  bcast_S_S50000 := Cert.ReferenceIdeal.Gen.bcast_S_S50000
  dot_S50000x512_S512x256_S50000x256_1_0_0_1_n_n_wf := Cert.ReferenceIdeal.Gen.dot_S50000x512_S512x256_S50000x256_1_0_0_1_n_n_wf
  dot_S50000x256_S256x1_S50000x1_1_0_0_1_n_n_wf := Cert.ReferenceIdeal.Gen.dot_S50000x256_S256x1_S50000x1_1_0_0_1_n_n_wf
  gather_S128_S50000x1_S50000_n_0_n_n_0_1_1_wf := Cert.ReferenceIdeal.Gen.gather_S128_S50000x1_S50000_n_0_n_n_0_1_1_wf

/-- A conjunction of two mask bits is set when both are. -/
theorem both {a b : Bool} (h : IntOp.andi (BitVec.ofBool a) (BitVec.ofBool b) = 1#1) : a = true ∧ b = true := by
  revert h; cases a <;> cases b <;> decide

/-- A word the range test admits is the id of a segment. -/
theorem id_of_test {b : BitVec 32} (h : IntOp.andi (IntOp.cmpi .sge b 0#32) (IntOp.cmpi .slt b 128#32) = 1#1) :
    ∃ g : Fin 128, b = BitVec.ofNat 32 g.val := by
  obtain ⟨h₀, h₁⟩ := both h
  rw [BitVec.sle_iff_toInt_le] at h₀
  rw [BitVec.slt_iff_toInt_lt] at h₁
  have e₀ : (0#32).toInt = 0 := by decide
  have e₁ : (128#32).toInt = 128 := by decide
  rw [e₀] at h₀
  rw [e₁] at h₁
  have hb := b.isLt
  rw [BitVec.toInt_eq_toNat_cond] at h₀ h₁
  have hn : b.toNat < 128 := by split at h₀ <;> split at h₁ <;> omega
  exact ⟨⟨b.toNat, hn⟩, BitVec.eq_of_toNat_eq (by simp)⟩

/-- A number the test admits is above minus infinity. -/
theorem gt_of_test {x : EReal}
    (h : FloatOps.cmpf (F := Ideal) (φ := .f32) .ogt x (Ideal.ofBits .f32 0xFF800000#32) = 1#1) : ⊥ < x := by
  rw [Words.negInf] at h
  by_contra hn
  rw [show FloatOps.cmpf (F := Ideal) (φ := .f32) .ogt x (⊥ : EReal) = BitVec.ofBool (decide (⊥ < x)) from rfl,
    decide_eq_false hn] at h
  exact absurd h (by decide)

/-- The precondition's second test: the reference's greatest scores, looked up with its indices, against minus infinity. -/
theorem second_test {F : FTy → Type} [FloatOps F] (x : FVec F S50000x512 .f32) (ids : IVec S50000 32) (w₁ : FVec F S512x256 .f32)
    (b₁ : FVec F S256 .f32) (w₂ : FVec F S256x1 .f32) (b₂ : FVec F S1 .f32) (wf : FVec F S512x512 .f32) (bf : FVec F S512 .f32) :
    (fn (F := F) x ids w₁ b₁ w₂ b₂ wf bf).2
      = cmpf .ogt
          (Host.gather Cert.ReferenceIdeal.gather_S128_S50000x1_S50000_n_0_n_n_0_1_1
            (Cert.ReferenceIdeal.Read.val_main_v19 (F := F) x ids w₁ b₁ w₂ b₂) (Cert.ReferenceIdeal.Read.val_main_v31 (F := F) ids))
          (broadcastInDim S50000 ![] Facts.bcast_S_S50000 (constant S_ .f32 0xFF800000#32)) := by
  rfl

/-- The range test at a row. -/
theorem id_of_range {ids lo hi : IVec S50000 32} (h : andi (cmpi .sge ids lo) (cmpi .slt ids hi) = fun _ => 1#1) (n : Fin 50000)
    (hlo : lo (ix1 n) = 0#32) (hhi : hi (ix1 n) = 128#32) : ∃ g : Fin 128, ids (ix1 n) = BitVec.ofNat 32 g.val := by
  have e : IntOp.andi (IntOp.cmpi .sge (ids (ix1 n)) (lo (ix1 n))) (IntOp.cmpi .slt (ids (ix1 n)) (hi (ix1 n))) = 1#1 :=
    congrFun h (ix1 n)
  rw [hlo, hhi] at e
  exact id_of_test e

/-- The test against minus infinity at a row. -/
theorem gt_of_row {p lo : FVec Ideal S50000 .f32} (h : cmpf .ogt p lo = fun _ => 1#1) (n : Fin 50000)
    (hlo : lo (ix1 n) = Ideal.ofBits .f32 0xFF800000#32) : ⊥ < p (ix1 n) := by
  have e : FloatOps.cmpf (F := Ideal) (φ := .f32) .ogt (p (ix1 n)) (lo (ix1 n)) = 1#1 := congrFun h (ix1 n)
  rw [hlo] at e
  exact gt_of_test e

/-- Arguments that pass the two tests are ones the results are claimed for. -/
theorem good_of_tests (a : Spec.Args) (h : (fn (F := Ideal) a.x a.ids a.w₁ a.b₁ a.w₂ a.b₂ a.wf a.bf).1 = fun _ => 1#1)
    (h' : (fn (F := Ideal) a.x a.ids a.w₁ a.b₁ a.w₂ a.b₂ a.wf a.bf).2 = fun _ => 1#1) : a.Good where
  id_mem n := id_of_range h n rfl rfl
  peak_gt n g hg :=
    lt_of_lt_of_eq (gt_of_row ((second_test ..).symm.trans h') n rfl)
      ((Cert.ReferenceIdeal.Lookup.gather_apply _ _ n g (Cert.ReferenceIdeal.Reference.index_apply a n g hg)).trans
        (Cert.ReferenceIdeal.Reference.peak_apply a g))

/-- Under the precondition the arguments in memory are ones the results are claimed for. -/
theorem good {m : (ℓ : Loc Cert.KernelIdeal.nD Cert.KernelIdeal.τ Cert.KernelIdeal.sig) → Buf (Elt Ideal) ℓ}
    (h : Cert.Pre_KernelIdeal_every_graph_scores m) (c : Dev Cert.KernelIdeal.nD) : (Cert.KernelIdeal.End.args m c).Good :=
  good_of_tests _ (h c).1 (h c).2

end Cert.Scores

end
-- ==== Proof.Agree.lean ====
/-
  The kernel and the reference leave the same two results.
-/
module

public import proofs.«01_k».proof.Proof.Scores
public import proofs.«01_k».proof.Proof.Gen.ReferenceIdeal.Run
public import Idealize.ShloMosaic.Lib.Quiescent

@[expose] public section

noncomputable section

namespace Cert.Agree

open Idealize.ShloMosaic Idealize.ShloMosaic.TcCoe Idealize.SL.Sem

/-- The reference keeps its arguments and leaves no semaphore raised. -/
theorem reference_frame : Cert.quiescent_ReferenceIdeal := fun m ρ _ =>
  (θ_run _ _ _).mono (fun r h => ⟨fun c => (h c).2.2, sem_eq_zero_of_no_sems (by decide) r.2⟩)
    (Cert.ReferenceIdeal.Value.run m ρ)

variable {a : Spec.Args} (ha : a.Good)
include ha

/-- An array whose entries are the softmax weights is the reference's second result. -/
theorem alpha_eq {v : FVec Ideal ⟨1, ![50000]⟩ .f32}
    (h : ∀ (n : Fin 50000) (g : Fin 128), a.id n = BitVec.ofNat 32 g.val → v (ix1 n) = a.alpha n g) :
    Cert.ReferenceIdeal.Read.val_main_v45 (F := Ideal) a.x a.ids a.w₁ a.b₁ a.w₂ a.b₂ = v := by
  funext i
  rw [eq_ix1 i]
  obtain ⟨g, hg⟩ := ha.id_mem (i 0)
  exact (Cert.ReferenceIdeal.Reference.alpha_apply ha _ g hg).trans (h _ g hg).symm

/-- An array whose entries are the pooled features is the reference's first result. -/
theorem embedding_eq {v : FVec Ideal ⟨2, ![128, 512]⟩ .f32} (h : ∀ (g : Fin 128) (f : Fin 512), v (ix2 g f) = a.embedding g f) :
    Cert.ReferenceIdeal.Read.val_main_v57 (F := Ideal) a.x a.ids a.w₁ a.b₁ a.w₂ a.b₂ a.wf a.bf = v := by
  funext i
  rw [eq_ix2 i]
  exact (Cert.ReferenceIdeal.Reference.embedding_apply ha _ _).trans (h _ _).symm

omit ha

/-- On equal arguments within the precondition, the kernel's two results are the reference's. -/
theorem algebraic : Cert.algebraic_KernelIdeal_ReferenceIdeal_pre_every_graph_scores := by
  intro m ρ m' ρ' hpre heq
  refine ⟨fun c => Cert.KernelIdeal.Gen.W4 m ρ c (Proc.devRef .tc Cert.KernelIdeal.main_v7),
    fun c => Cert.KernelIdeal.Gen.W4 m ρ c (Proc.devRef .tc Cert.KernelIdeal.main_v8), ?_, ?_⟩
  · refine (θ_run _ _ _).mono (fun r h c => ?_) (Cert.KernelIdeal.Launch.run m ρ)
    obtain ⟨h₇, h₈, hargs⟩ := h c
    exact ⟨h₇, h₈, hargs _ (by decide), hargs _ (by decide), hargs _ (by decide), hargs _ (by decide), hargs _ (by decide),
      hargs _ (by decide), hargs _ (by decide), hargs _ (by decide)⟩
  · refine (θ_run _ _ _).mono (fun r h c => ?_) (Cert.ReferenceIdeal.Value.run m' ρ')
    obtain ⟨h₅₇, h₄₅, hargs⟩ := h c
    have good := Scores.good hpre c
    obtain ⟨e₀, e₁, e₂, e₃, e₄, e₅, e₆, e₇⟩ := heq c
    refine ⟨h₅₇.trans ?_, h₄₅.trans ?_, hargs⟩
    · rw [Cert.ReferenceIdeal.Read.val_main_v57_eq, e₀, e₁, e₂, e₃, e₄, e₅, e₆, e₇]
      exact embedding_eq good (Cert.KernelIdeal.End.embedding_apply m ρ c)
    · rw [Cert.ReferenceIdeal.Read.val_main_v45_eq, e₀, e₁, e₂, e₃, e₄, e₅]
      exact alpha_eq good (Cert.KernelIdeal.End.alpha_apply m ρ c)

end Cert.Agree

end
-- ==== Proof.lean ====
/-
  The claim: each program keeps its arguments and leaves its semaphores at zero; the kernel over the exact values is the
  kernel; and it agrees with the reference.
-/
module

public import proofs.«01_k».proof.Proof.Agree
public import proofs.«01_k».proof.Proof.Gen.Kernel.Frame
public import proofs.«01_k».proof.Proof.Gen.KernelIdeal.Frame

@[expose] public section

noncomputable section

namespace Cert.Proof

/-- Every claim about the pooling kernel, proved. -/
theorem claim : Cert.Claim :=
  ⟨Cert.Kernel.Gen.facts, Cert.KernelIdeal.Gen.facts, Cert.ReferenceIdeal.Gen.facts, Cert.Scores.facts,
    fun m ρ _ => Cert.Kernel.Gen.frame m ρ, fun m ρ _ => Cert.KernelIdeal.Gen.frame m ρ,
    fun m ρ _ => Cert.KernelIdeal.Gen.frame m ρ, Cert.Agree.reference_frame,
    fun m ρ _ => Cert.Agree.reference_frame m ρ trivial, trivial, Cert.Agree.algebraic⟩

end Cert.Proof

end
